-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 4096, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 4096, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .f32) (main_arg1 : FVec F S512x256 .f32) (main_arg2 : FVec F S2x128x4x64 .f32) (main_arg3 : FVec F S2x128x4x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x4x64 .f32 := Host.absf main_arg2
  let main_cst_2 : FVec F S_ .f32 := constant S_ .f32 0x7F800000#32
  let main_v10 : FVec F S2x128x4x64 .f32 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x4096x4x64 : S_.BroadcastsInDim S2x4096x4x64 (![] : Fin 0 → Fin S2x4096x4x64.rank)
  reducesTo_S2x4096x4x64_S_d0_1_2_3 : S2x4096x4x64.ReducesTo [0, 1, 2, 3] S_

variable [Facts]

def fn {F : FTy → Type} [FloatOps F] (main_arg0 : FVec F S2x4096x512 .f32) (main_arg1 : FVec F S512x256 .f32) (main_arg2 : FVec F S2x4096x4x64 .f32) (main_arg3 : FVec F S2x4096x4x64 .f32) (main_arg4 : FVec F S256x512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x4096x4x64 .f32 := Host.absf main_arg2
  let main_cst_2 : FVec F S_ .f32 := constant S_ .f32 0x7F800000#32
  let main_v10 : FVec F S2x4096x4x64 .f32 := broadcastInDim S2x4096x4x64 ![] bcast_S_S2x4096x4x64 main_cst_2
  let main_v11 : IVec S2x4096x4x64 1 := cmpf .olt main_v9 main_v10
  let main_c_3 : IVec S_ 1 := constantI S_ 1 1#1
  let main_v12 : IVec S_ 1 := (fun x v => Host.reduce IntOp.andi x v reducesTo_S2x4096x4x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S2x2x2x128x4x64 : Shape := ⟨6, ![2, 2, 2, 128, 4, 64]⟩
abbrev S4 : Shape := ⟨1, ![4]⟩
abbrev S_ : Shape := ⟨0, ![]⟩
abbrev S1 : Shape := ⟨1, ![1]⟩
abbrev S1x1x2x128x4x64 : Shape := ⟨6, ![1, 1, 2, 128, 4, 64]⟩
abbrev S1x128x512 : Shape := ⟨3, ![1, 128, 512]⟩
abbrev S128x512 : Shape := ⟨2, ![128, 512]⟩
abbrev S128x256 : Shape := ⟨2, ![128, 256]⟩
abbrev S128x384 : Shape := ⟨2, ![128, 384]⟩
abbrev S128x64 : Shape := ⟨2, ![128, 64]⟩
abbrev S1x128x1x64 : Shape := ⟨4, ![1, 128, 1, 64]⟩
abbrev S384x64 : Shape := ⟨2, ![384, 64]⟩
abbrev S128 : Shape := ⟨1, ![128]⟩
abbrev S128x1 : Shape := ⟨2, ![128, 1]⟩

abbrev nBuf : Space → Nat
  | .hbm => 6
  | .vmem => 7
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x4x64, .f32⟩
  | .hbm, ⟨3, _⟩ => ⟨S2x128x4x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x4x64, .f32⟩
  | .local _ .vmem, ⟨3, _⟩ => ⟨S2x128x4x64, .f32⟩
  | .local _ .vmem, ⟨4, _⟩ => ⟨S256x512, .f32⟩
  | .local _ .vmem, ⟨5, _⟩ => ⟨S2x128x512, .f32⟩
  | .local _ .vmem, ⟨6, _⟩ => ⟨S2x2x2x128x4x64, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .ne v2 c0_i32
  let v11 : BitVec 32 := Scalar.extui v8
  let c0_i32_5 : BitVec 32 := 0#32
  let v12 : BitVec 1 := Scalar.cmpi .ne v11 c0_i32_5
  v12

def k0_dev1 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_171 : BitVec 32 := 1#32
  let v359 : BitVec 32 := Scalar.muli v5 c1_i32_171
  let v360 : BitVec 32 := Scalar.addi c0_i32_172 v359
  v360.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v9 : BitVec 1 := Scalar.cmpi .ne v2 c31_i32
  let v13 : BitVec 32 := Scalar.extui v9
  let c0_i32_6 : BitVec 32 := 0#32
  let v14 : BitVec 1 := Scalar.cmpi .ne v13 c0_i32_6
  v14

def k0_dev2 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_171 : BitVec 32 := 1#32
  let v359 : BitVec 32 := Scalar.muli v7 c1_i32_171
  let v360 : BitVec 32 := Scalar.addi c0_i32_172 v359
  v360.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v9 : BitVec 1 := Scalar.cmpi .ne v2 c31_i32
  let v19 : BitVec 32 := Scalar.extui v9
  let c0_i32_17 : BitVec 32 := 0#32
  let v20 : BitVec 1 := Scalar.cmpi .ne v19 c0_i32_17
  v20

def k0_dev3 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_170 : BitVec 32 := 1#32
  let v359 : BitVec 32 := Scalar.muli v7 c1_i32_170
  let v360 : BitVec 32 := Scalar.addi c0_i32_171 v359
  v360.toNat
def k0_dev4 (d0 : Dev nD) : Nat :=
  let c0_i32_177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_176 : BitVec 32 := 1#32
  let v367 : BitVec 32 := Scalar.muli v7 c1_i32_176
  let v368 : BitVec 32 := Scalar.addi c0_i32_177 v367
  v368.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .ne v2 c0_i32
  let v21 : BitVec 32 := Scalar.extui v8
  let c0_i32_24 : BitVec 32 := 0#32
  let v22 : BitVec 1 := Scalar.cmpi .ne v21 c0_i32_24
  v22

def k0_dev5 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_170 : BitVec 32 := 1#32
  let v359 : BitVec 32 := Scalar.muli v5 c1_i32_170
  let v360 : BitVec 32 := Scalar.addi c0_i32_171 v359
  v360.toNat
def k0_dev6 (d0 : Dev nD) : Nat :=
  let c0_i32_177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_176 : BitVec 32 := 1#32
  let v367 : BitVec 32 := Scalar.muli v5 c1_i32_176
  let v368 : BitVec 32 := Scalar.addi c0_i32_177 v367
  v368.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S2x4096x256 : Shape := ⟨3, ![2, 4096, 256]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S2x4x4096x4096 : Shape := ⟨4, ![2, 4, 4096, 4096]⟩
abbrev S1x1x4096x4096 : Shape := ⟨4, ![1, 1, 4096, 4096]⟩
abbrev S2x4x4096 : Shape := ⟨3, ![2, 4, 4096]⟩
abbrev S2x4x4096x1 : Shape := ⟨4, ![2, 4, 4096, 1]⟩
abbrev S1x1x4096x1 : Shape := ⟨4, ![1, 1, 4096, 1]⟩
abbrev S2x4x64x4096 : Shape := ⟨4, ![2, 4, 64, 4096]⟩

abbrev nBuf : Space → Nat
  | .hbm => 57
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S512x256, .f32⟩
  | .hbm, ⟨2, _⟩ => ⟨S2x4096x4x64, .f32⟩
  | .hbm, ⟨3, _⟩ => ⟨S2x4096x4x64, .f32⟩
  | .hbm, ⟨4, _⟩ => ⟨S256x512, .f32⟩
  | .hbm, ⟨5, _⟩ => ⟨S2x4096x256, .f32⟩
  | .hbm, ⟨6, _⟩ => ⟨S2x4096x4x64, .f32⟩
  | .hbm, ⟨7, _⟩ => ⟨S4096, .i32⟩
  | .hbm, ⟨8, _⟩ => ⟨S4096x1, .i32⟩
  | .hbm, ⟨9, _⟩ => ⟨S4096, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i1⟩
  | .hbm, ⟨18, _⟩ => ⟨S2x4x4096x4096, .f32⟩
  | .hbm, ⟨19, _⟩ => ⟨S_, .f32⟩
  | .hbm, ⟨20, _⟩ => ⟨S2x4x4096x4096, .f32⟩
  | .hbm, ⟨21, _⟩ => ⟨S2x4x4096x4096, .f32⟩
  | .hbm, ⟨22, _⟩ => ⟨S1x1x4096x4096, .i1⟩
  | .hbm, ⟨23, _⟩ => ⟨S_, .f32⟩
  | .hbm, ⟨24, _⟩ => ⟨S_, .f32⟩
  | .hbm, ⟨25, _⟩ => ⟨S2x4x4096x4096, .i1⟩
  | .hbm, ⟨26, _⟩ => ⟨S2x4x4096x4096, .f32⟩
  | .hbm, ⟨27, _⟩ => ⟨S2x4x4096x4096, .f32⟩
  | .hbm, ⟨28, _⟩ => ⟨S_, .f32⟩
  | .hbm, ⟨29, _⟩ => ⟨S2x4x4096, .f32⟩
  | .hbm, ⟨30, _⟩ => ⟨S2x4x4096x1, .f32⟩
  | .hbm, ⟨31, _⟩ => ⟨S2x4x4096x4096, .f32⟩
  | .hbm, ⟨32, _⟩ => ⟨S2x4x4096x4096, .f32⟩
  | .hbm, ⟨33, _⟩ => ⟨S2x4x4096x4096, .f32⟩
  | .hbm, ⟨34, _⟩ => ⟨S_, .i1⟩
  | .hbm, ⟨35, _⟩ => ⟨S4096, .i1⟩
  | .hbm, ⟨36, _⟩ => ⟨S1x1x4096x1, .i1⟩
  | .hbm, ⟨37, _⟩ => ⟨S_, .f32⟩
  | .hbm, ⟨38, _⟩ => ⟨S2x4x4096, .f32⟩
  | .hbm, ⟨39, _⟩ => ⟨S2x4x4096x1, .f32⟩
  | .hbm, ⟨40, _⟩ => ⟨S_, .f32⟩
  | .hbm, ⟨41, _⟩ => ⟨S_, .f32⟩
  | .hbm, ⟨42, _⟩ => ⟨S2x4x4096x1, .i1⟩
  | .hbm, ⟨43, _⟩ => ⟨S2x4x4096x1, .f32⟩
  | .hbm, ⟨44, _⟩ => ⟨S2x4x4096x1, .f32⟩
  | .hbm, ⟨45, _⟩ => ⟨S2x4x4096x4096, .f32⟩
  | .hbm, ⟨46, _⟩ => ⟨S2x4x4096x4096, .f32⟩
  | .hbm, ⟨47, _⟩ => ⟨S1x1x4096x1, .i1⟩
  | .hbm, ⟨48, _⟩ => ⟨S_, .f32⟩
  | .hbm, ⟨49, _⟩ => ⟨S_, .f32⟩
  | .hbm, ⟨50, _⟩ => ⟨S2x4x4096x4096, .i1⟩
  | .hbm, ⟨51, _⟩ => ⟨S2x4x4096x4096, .f32⟩
  | .hbm, ⟨52, _⟩ => ⟨S2x4x4096x4096, .f32⟩
  | .hbm, ⟨53, _⟩ => ⟨S2x4x64x4096, .f32⟩
  | .hbm, ⟨54, _⟩ => ⟨S2x4096x4x64, .f32⟩
  | .hbm, ⟨55, _⟩ => ⟨S2x4096x256, .f32⟩
  | .hbm, ⟨56, _⟩ => ⟨S2x4096x512, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Wire.lean ====
/-
# The wires of the ring

Thirty-two devices stand in a line; device `c` talks to its left neighbour `lft c` when it has one (`hasL c`) and to its
right neighbour `rgt c` when it has one (`hasR c`). Each device first tells each of its neighbours "my half of the halo
buffer is yours to fill" on the barrier semaphore, waits to hear the same from each of them, then copies its key and value
blocks into the halo buffers of both.

The halo buffer is four slots: 0 and 1 take the left neighbour's key and value block, 2 and 3 the right neighbour's. The
copy that fills slot `j` of the receiver is copy `j` of the sender, so copies 0 and 1 go right, 2 and 3 go left. This module
states the whole exchange as a schedule of one round: on every semaphore which payments it expects, and what each payment
hands over, CONTENTS included.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline library's beside one copy of the rounds library's, duties named by booleans. -/
abbrev Duties : Type := URounds (GSem nD τ sig) Bool
/-- The two side by side. -/
abbrev UW : Type := UR sig nD τ × Duties

local notation "𝕄" => MT nD τ sig Unit (Elt F) ℕ UW ℕ

/-- The pipeline's part of the ghost state. -/
abbrev EP : Emb (UR sig nD τ) (MT nD τ sig Unit (Elt F) ℕ UW ℕ) := embL
/-- The rounds' part. -/
abbrev ER : Emb Duties (MT nD τ sig Unit (Elt F) ℕ UW ℕ) := embR

variable (m : (ℓ : Loc nD τ sig) → Buf (Elt F) ℓ) (ρ : Dev nD → PrngReg)

/-- The machine at the start: memory `m`, every semaphore zero. -/
def s₀ : MemSt nD τ sig (Elt F) := ⟨m, fun _ => 0, ρ⟩

/-! ## The line of devices -/

set_option backward.proofsInPublic true in
/-- The left neighbour (the ring closed, so that it is a permutation; device 0 never uses it). -/
def lft (c : Dev nD) : Dev nD := ⟨(c.val + 31) % 32, Nat.mod_lt _ (by decide)⟩
set_option backward.proofsInPublic true in
/-- The right neighbour (device 31 never uses it). -/
def rgt (c : Dev nD) : Dev nD := ⟨(c.val + 1) % 32, Nat.mod_lt _ (by decide)⟩

/-- Right, then left, is back. -/
theorem lft_rgt (c : Dev nD) : lft (rgt c) = c := by revert c; decide
/-- Left, then right, is back. -/
theorem rgt_lft (c : Dev nD) : rgt (lft c) = c := by revert c; decide

/-- The ring as a permutation of the devices. -/
def ring : Dev nD ≃ Dev nD := ⟨rgt, lft, lft_rgt, rgt_lft⟩

/-- There is a device to the left, to the right. -/
def hasL (c : Dev nD) : Bool := decide (c.val ≠ 0)
/-- There is a device to the right. -/
def hasR (c : Dev nD) : Bool := decide (c.val ≠ 31)

/-- The right neighbour has one to its left exactly when it is there. -/
theorem hasL_rgt (c : Dev nD) : hasL (rgt c) = hasR c := by revert c; decide
/-- The left neighbour likewise. -/
theorem hasR_lft (c : Dev nD) : hasR (lft c) = hasL c := by revert c; decide
/-- Every device has a neighbour. -/
theorem has_some (c : Dev nD) : hasL c = false → hasR c = true := by revert c; decide

/-- Copy `j` of device `c`: whether it happens, and whom it goes to. -/
def sends (j : Fin 4) (c : Dev nD) : Bool := if j.val < 2 then hasR c else hasL c
/-- Whom copy `j` of device `c` goes to. -/
def tgt (j : Fin 4) (c : Dev nD) : Dev nD := if j.val < 2 then rgt c else lft c
/-- Slot `j` of device `c`: whether somebody fills it, and who. -/
def takes (j : Fin 4) (c : Dev nD) : Bool := if j.val < 2 then hasL c else hasR c
/-- Who fills slot `j` of device `c`. -/
def org (j : Fin 4) (c : Dev nD) : Dev nD := if j.val < 2 then lft c else rgt c

/-- A copy's target is filled by its sender. -/
theorem org_tgt (j : Fin 4) (c : Dev nD) : org j (tgt j c) = c := by
  unfold org tgt; split <;> [exact lft_rgt c; exact rgt_lft c]
/-- And the other way round. -/
theorem tgt_org (j : Fin 4) (c : Dev nD) : tgt j (org j c) = c := by
  unfold org tgt; split <;> [exact rgt_lft c; exact lft_rgt c]
/-- A copy's target is filled exactly when the copy happens. -/
theorem takes_tgt (j : Fin 4) (c : Dev nD) : takes j (tgt j c) = sends j c := by
  unfold takes tgt sends; split <;> [exact hasL_rgt c; exact hasR_lft c]

/-- Copy `j`'s targets as a permutation of the devices. -/
def tgtE (j : Fin 4) : Dev nD ≃ Dev nD := ⟨tgt j, org j, org_tgt j, tgt_org j⟩

/-! ## Buffers and semaphores -/

/-- The staged key and value blocks, and the result's staging buffer. -/
abbrev kM : Memref sig .tc .vmem S2x128x4x64 .f32 := Memref.whole cc0_stg2_0
abbrev vM : Memref sig .tc .vmem S2x128x4x64 .f32 := Memref.whole cc0_stg3_0
abbrev xM : Memref sig .tc .vmem S2x128x512 .f32 := Memref.whole cc0_stg0_0
abbrev wqM : Memref sig .tc .vmem S512x256 .f32 := Memref.whole cc0_stg1_0
abbrev woM : Memref sig .tc .vmem S256x512 .f32 := Memref.whole cc0_stg4_0
abbrev oM : Memref sig .tc .vmem S2x128x512 .f32 := Memref.whole cc0_stg5_0
/-- The halo buffer. -/
abbrev hM : Memref sig .tc .vmem S2x2x2x128x4x64 .f32 := Memref.whole cc0_scratch0

/-- Where slot `j` of the halo buffer begins. -/
abbrev off (j : Fin 4) : Fin 6 → Nat := match j with
  | 0 => ![0, 0, 0, 0, 0, 0]
  | 1 => ![0, 1, 0, 0, 0, 0]
  | 2 => ![1, 0, 0, 0, 0, 0]
  | 3 => ![1, 1, 0, 0, 0, 0]

/-- The slots lie in the buffer. -/
theorem inb (j : Fin 4) : ∀ a, off j a + S1x1x2x128x4x64.size a ≤ S2x2x2x128x4x64.size a := by
  revert j; decide

/-- Slot `j`'s rectangle, and the slot as the copies address it. -/
abbrev slotR (j : Fin 4) : Rect S2x2x2x128x4x64 :=
  Rect.unit (s := S2x2x2x128x4x64) (off j) S1x1x2x128x4x64.size (inb j)
abbrev slotM (j : Fin 4) : Memref sig .tc .vmem S2x128x4x64 .f32 :=
  (hM.slice (slotR j) (fun _ => rfl)).squeeze S2x128x4x64 squeezes_S1x1x2x128x4x64_S2x128x4x64

/-- The barrier semaphore, and the semaphores of copy `j` at the sender and at the receiver. -/
abbrev barS : Sem sig := (SemArray.scalar (sig.barrier 0 rfl) : Sems sig S_).sem
abbrev sS (j : Fin 4) : DmaSem sig := match j with | 0 => ⟨6, by decide⟩ | 1 => ⟨7, by decide⟩ | 2 => ⟨8, by decide⟩ | 3 => ⟨9, by decide⟩
abbrev vS (j : Fin 4) : DmaSem sig := match j with | 0 => ⟨10, by decide⟩ | 1 => ⟨11, by decide⟩ | 2 => ⟨12, by decide⟩ | 3 => ⟨13, by decide⟩

abbrev barC (c : Dev nD) : GSem nD τ sig := ((c : Thread nD τ), .reg barS)
abbrev sC (j : Fin 4) (c : Dev nD) : GSem nD τ sig := ((c : Thread nD τ), .dma (sS j))
abbrev vC (j : Fin 4) (c : Dev nD) : GSem nD τ sig := ((c : Thread nD τ), .dma (vS j))

/-- What one copy credits its semaphores with. -/
abbrev N : ℕ := kM.view.dmaCredit
/-- It is positive. -/
theorem N_pos : 0 < N := View.dmaCredit_pos _ (by decide)
/-- A slot has the same credit. -/
theorem credit_slot (j : Fin 4) : (slotM j).view.dmaCredit = N := rfl
/-- So has the values' block. -/
theorem credit_v : vM.view.dmaCredit = N := rfl

/-! ## Contents -/

/-- What window `w`'s fetch leaves in the staging buffers of device `c`. -/
def xstg (c : Dev nD) : (cc0_stg0_0 : Ref sig .tc).ty.Contents (Elt F) :=
  (win0_0.blk (0 : Fin 1)).view.read (Elt F) ((s₀ m ρ).mem ((c : Thread nD τ).loc main_arg0))
/-- The staged query weights. -/
def wqstg (c : Dev nD) : (cc0_stg1_0 : Ref sig .tc).ty.Contents (Elt F) :=
  (win0_1.blk (0 : Fin 1)).view.read (Elt F) ((s₀ m ρ).mem ((c : Thread nD τ).loc main_arg1))
/-- The staged keys. -/
def kstg (c : Dev nD) : (cc0_stg2_0 : Ref sig .tc).ty.Contents (Elt F) :=
  (win0_2.blk (0 : Fin 1)).view.read (Elt F) ((s₀ m ρ).mem ((c : Thread nD τ).loc main_arg2))
/-- The staged values. -/
def vstg (c : Dev nD) : (cc0_stg3_0 : Ref sig .tc).ty.Contents (Elt F) :=
  (win0_3.blk (0 : Fin 1)).view.read (Elt F) ((s₀ m ρ).mem ((c : Thread nD τ).loc main_arg3))
/-- The staged weights of the projection. -/
def wostg (c : Dev nD) : (cc0_stg4_0 : Ref sig .tc).ty.Contents (Elt F) :=
  (win0_4.blk (0 : Fin 1)).view.read (Elt F) ((s₀ m ρ).mem ((c : Thread nD τ).loc main_arg4))

/-- What copy `j` of device `c` carries: keys at 0 and 2, values at 1 and 3. -/
def kv (j : Fin 4) (c : Dev nD) : S2x128x4x64.Idx → Elt F .f32 := match j with
  | 0 => kstg m ρ c
  | 1 => vstg m ρ c
  | 2 => kstg m ρ c
  | 3 => vstg m ρ c

/-- The shares of a staged block: one kept to load from, one lent to each of its two copies. -/
abbrev qKeep : PosShare TreeShare := fullShare.left
abbrev qLend (j : Fin 4) : PosShare TreeShare := if j.val < 2 then fullShare.right.left else fullShare.right.right

/-- A share of the keys' buffer. -/
def kPts (q : PosShare TreeShare) (c : Dev nD) : sProp 𝕄 := ((c : Thread nD τ).loc cc0_stg2_0) ↦{q} kstg m ρ c
/-- A share of the values' buffer. -/
def vPts (q : PosShare TreeShare) (c : Dev nD) : sProp 𝕄 := ((c : Thread nD τ).loc cc0_stg3_0) ↦{q} vstg m ρ c

/-- What copy `j` borrows. -/
def srcPts (j : Fin 4) (c : Dev nD) : sProp 𝕄 := match j with
  | 0 => kPts m ρ fullShare.right.left c
  | 1 => vPts m ρ fullShare.right.left c
  | 2 => kPts m ρ fullShare.right.right c
  | 3 => vPts m ρ fullShare.right.right c

/-- Slot `j` of device `c`, holding anything; and holding `X`. -/
def anySlot (j : Fin 4) (c : Dev nD) : sProp 𝕄 :=
  iprop(∃ f : Buf (Elt F) ((slotM j).view.loc (c : Thread nD τ)), (slotM j).view.loc (c : Thread nD τ) ↦[(slotM j).view.set]{fullShare} f)
/-- Slot `j` of device `c`, holding `X`. -/
def slotAt (j : Fin 4) (c : Dev nD) (X : S2x128x4x64.Idx → Elt F .f32) : sProp 𝕄 :=
  iprop(∃ f : Buf (Elt F) ((slotM j).view.loc (c : Thread nD τ)), ⌜(slotM j).view.read (Elt F) f = X⌝
    ∗ (slotM j).view.loc (c : Thread nD τ) ↦[(slotM j).view.set]{fullShare} f)

omit [FloatOps F] in
instance srcPts_storable (j : Fin 4) (c : Dev nD) : BI.Storable (upEmb : UEmb _ 𝕄) (srcPts (F := F) m ρ j c) := by
  fin_cases j <;> (show BI.Storable _ (pointsTo _ _ _ _); infer_instance)
omit [FloatOps F] in
instance anySlot_storable (j : Fin 4) (c : Dev nD) : BI.Storable (upEmb : UEmb _ 𝕄) (anySlot (F := F) j c) := by
  unfold anySlot; infer_instance
omit [FloatOps F] in
instance slotAt_storable (j : Fin 4) (c : Dev nD) (X) : BI.Storable (upEmb : UEmb _ 𝕄) (slotAt (F := F) j c X) := by
  unfold slotAt; infer_instance

/-! ## The schedule -/

/-- What the barrier's payment `d` to device `c` hands over: from the right neighbour (`true`) its slots 0 and 1, from the
    left (`false`) its slots 2 and 3. -/
def barPay (c : Dev nD) (d : Bool) : sProp 𝕄 :=
  if d then iprop(anySlot 0 (rgt c) ∗ anySlot 1 (rgt c)) else iprop(anySlot 2 (lft c) ∗ anySlot 3 (lft c))

/-- The barrier payments device `c` expects. -/
def barDuties (c : Dev nD) : Finset Bool := Finset.univ.filter fun d => (if d then hasR c else hasL c) = true

/-- Whether a payment is expected on DMA semaphore `q` of device `c`. -/
def dmaOn (q : DmaSem sig) (c : Dev nD) : Bool := match q with
  | ⟨6, _⟩ => sends 0 c | ⟨7, _⟩ => sends 1 c | ⟨8, _⟩ => sends 2 c | ⟨9, _⟩ => sends 3 c
  | ⟨10, _⟩ => takes 0 c | ⟨11, _⟩ => takes 1 c | ⟨12, _⟩ => takes 2 c | ⟨13, _⟩ => takes 3 c
  | _ => false

/-- What a payment on DMA semaphore `q` of device `c` hands over: at a sender's, the borrowed share of the block back; at a
    receiver's, the slot holding the neighbour's block. -/
def dmaPay (q : DmaSem sig) (c : Dev nD) : sProp 𝕄 := match q with
  | ⟨6, _⟩ => srcPts m ρ 0 c | ⟨7, _⟩ => srcPts m ρ 1 c | ⟨8, _⟩ => srcPts m ρ 2 c | ⟨9, _⟩ => srcPts m ρ 3 c
  | ⟨10, _⟩ => slotAt 0 c (kv m ρ 0 (org 0 c)) | ⟨11, _⟩ => slotAt 1 c (kv m ρ 1 (org 1 c))
  | ⟨12, _⟩ => slotAt 2 c (kv m ρ 2 (org 2 c)) | ⟨13, _⟩ => slotAt 3 c (kv m ρ 3 (org 3 c))
  | _ => iprop(emp)

omit [FloatOps F] in
instance barPay_storable (c : Dev nD) (d : Bool) : BI.Storable (upEmb : UEmb _ 𝕄) (barPay (F := F) c d) := by
  unfold barPay; split <;> infer_instance
omit [FloatOps F] in
instance dmaPay_storable (q : DmaSem sig) (c : Dev nD) : BI.Storable (upEmb : UEmb _ 𝕄) (dmaPay (F := F) m ρ q c) := by
  unfold dmaPay; split <;> infer_instance

/-- The schedule: one round, the duties above, a barrier payment of one, a copy's payment of its block's credit. -/
def Rd : Rounds.Schedule (GSem nD τ sig) Bool 𝕄 where
  duties g r := if r = 0 ∧ g.1.2 = .tc then
      (match g.2 with | .reg _ => barDuties g.1.1 | .dma q => if dmaOn q g.1.1 then {false} else ∅) else ∅
  unitless _ := False
  amount g _ _ := match g.2 with | .reg _ => 1 | .dma _ => N
  payload g _ d := match g.2 with | .reg _ => barPay g.1.1 d | .dma q => dmaPay m ρ q g.1.1
  amount_pos g _ _ _ := by
    rcases g with ⟨t, s | q⟩
    · exact Nat.one_pos
    · exact N_pos

instance Rd_payload_storable (g : GSem nD τ sig) (r : ℕ) (d : Bool) :
    BI.Storable (upEmb : UEmb _ 𝕄) ((Rd (F := F) m ρ).payload g r d) := by
  rcases g with ⟨t, s | q⟩
  · exact barPay_storable t.1 d
  · exact dmaPay_storable m ρ q t.1

section Sched
variable (c : Dev nD)

omit [FloatOps F] in
/-- The payments due on a barrier. -/
theorem duties_bar : (Rd (F := F) m ρ).duties (barC c) 0 = barDuties c := by
  dsimp only [Rd]; exact if_pos ⟨rfl, rfl⟩
omit [FloatOps F] in
/-- Those on a DMA semaphore. -/
theorem duties_dma (q : DmaSem sig) :
    (Rd (F := F) m ρ).duties ((c : Thread nD τ), .dma q) 0 = if dmaOn q c then {false} else ∅ := by
  dsimp only [Rd]; exact if_pos ⟨rfl, rfl⟩
/-- A sender's is paid exactly when its copy happens. -/
theorem dmaOn_s (j : Fin 4) : dmaOn (sS j) c = sends j c := by fin_cases j <;> rfl
/-- A receiver's exactly when its slot is filled. -/
theorem dmaOn_v (j : Fin 4) : dmaOn (vS j) c = takes j c := by fin_cases j <;> rfl
omit [FloatOps F] in
/-- The payments due on a sender's semaphore. -/
theorem duties_s (j : Fin 4) : (Rd (F := F) m ρ).duties (sC j c) 0 = if sends j c then {false} else ∅ := by
  rw [duties_dma, dmaOn_s]
omit [FloatOps F] in
/-- On a receiver's. -/
theorem duties_v (j : Fin 4) : (Rd (F := F) m ρ).duties (vC j c) 0 = if takes j c then {false} else ∅ := by
  rw [duties_dma, dmaOn_v]
omit [FloatOps F] in
/-- After round 0 nothing is due anywhere. -/
theorem duties_later (g : GSem nD τ sig) : ∀ r, 1 ≤ r → (Rd (F := F) m ρ).duties g r = ∅ :=
  fun r hr => if_neg fun h => by omega
omit [FloatOps F] in
/-- On a semaphore that expects no payment, no round has one. -/
theorem duties_none (g : GSem nD τ sig) (h : (Rd (F := F) m ρ).duties g 0 = ∅) : ∀ r, 0 ≤ r → (Rd (F := F) m ρ).duties g r = ∅ :=
  fun r _ => r.eq_zero_or_pos.elim (fun h0 => h0 ▸ h) (duties_later m ρ g r)

omit [FloatOps F] in
/-- A payment on a barrier is one. -/
theorem amount_bar (d : Bool) : (Rd (F := F) m ρ).amount (barC c) 0 d = 1 := rfl
omit [FloatOps F] in
/-- On a sender's semaphore it is a block's credit. -/
theorem amount_s (j : Fin 4) (d : Bool) : (Rd (F := F) m ρ).amount (sC j c) 0 d = N := rfl
omit [FloatOps F] in
/-- So it is on a receiver's. -/
theorem amount_v (j : Fin 4) (d : Bool) : (Rd (F := F) m ρ).amount (vC j c) 0 d = N := rfl

omit [FloatOps F] in
/-- A barrier's payment hands over slots. -/
theorem payload_bar (d : Bool) : (Rd (F := F) m ρ).payload (barC c) 0 d = barPay c d := rfl
omit [FloatOps F] in
/-- A sender's hands back the borrowed share. -/
theorem payload_s (j : Fin 4) (d : Bool) : (Rd (F := F) m ρ).payload (sC j c) 0 d = srcPts m ρ j c := by fin_cases j <;> rfl
omit [FloatOps F] in
/-- A receiver's hands over the filled slot. -/
theorem payload_v (j : Fin 4) (d : Bool) : (Rd (F := F) m ρ).payload (vC j c) 0 d = slotAt j c (kv m ρ j (org j c)) := by
  fin_cases j <;> rfl

omit [FloatOps F] in
/-- What a barrier expects in all. -/
theorem expect_bar : (Rd (F := F) m ρ).expect (barC c) 0 = (barDuties c).card := by
  unfold Schedule.expect Schedule.amountOf
  rw [duties_bar, Finset.sum_congr rfl fun d _ => amount_bar m ρ c d, Finset.sum_const, smul_eq_mul, Nat.mul_one]
omit [FloatOps F] in
/-- What a sender's semaphore expects. -/
theorem expect_s (j : Fin 4) (h : sends j c = true) : (Rd (F := F) m ρ).expect (sC j c) 0 = N := by
  unfold Schedule.expect Schedule.amountOf; rw [duties_s, if_pos h, Finset.sum_singleton, amount_s]
omit [FloatOps F] in
/-- What a receiver's does. -/
theorem expect_v (j : Fin 4) (h : takes j c = true) : (Rd (F := F) m ρ).expect (vC j c) 0 = N := by
  unfold Schedule.expect Schedule.amountOf; rw [duties_v, if_pos h, Finset.sum_singleton, amount_v]

omit [FloatOps F] in
/-- The whole payload of a sender's semaphore, of a receiver's. -/
theorem rest_s (j : Fin 4) (h : sends j c = true) :
    bigSep ((Rd (F := F) m ρ).duties (sC j c) 0 \ ∅) (fun d => (Rd (F := F) m ρ).payload (sC j c) 0 d) = srcPts m ρ j c := by
  rw [Finset.sdiff_empty, duties_s, if_pos h, bigSep_singleton, payload_s]
omit [FloatOps F] in
/-- The whole payload of a receiver's semaphore. -/
theorem rest_v (j : Fin 4) (h : takes j c = true) :
    bigSep ((Rd (F := F) m ρ).duties (vC j c) 0 \ ∅) (fun d => (Rd (F := F) m ρ).payload (vC j c) 0 d)
      = slotAt j c (kv m ρ j (org j c)) := by
  rw [Finset.sdiff_empty, duties_v, if_pos h, bigSep_singleton, payload_v]

end Sched

/-! ## Debts and levels -/

/-- What copy `j` of device `c` owes its receiver. -/
def owe (j : Fin 4) (c : Dev nD) : CellTallies nD τ sig Unit := tallyAt (vC j (tgt j c)) () (if sends j c then N else 0)
/-- What device `c` owes before copies 3, 2, 1, 0, before its signal to the right, before its signal to the left. -/
def O3 (c : Dev nD) : CellTallies nD τ sig Unit := 0 + owe 3 c
/-- Before copy 2. -/
def O2 (c : Dev nD) : CellTallies nD τ sig Unit := O3 c + owe 2 c
/-- Before copy 1. -/
def O1 (c : Dev nD) : CellTallies nD τ sig Unit := O2 c + owe 1 c
/-- Before copy 0. -/
def OX (c : Dev nD) : CellTallies nD τ sig Unit := O1 c + owe 0 c
/-- Before the signal to the right. -/
def OR (c : Dev nD) : CellTallies nD τ sig Unit := OX c + tallyAt (barC (rgt c)) () (if hasR c then 1 else 0)
/-- Before the signal to the left: at the launch. -/
def O₀ (c : Dev nD) : CellTallies nD τ sig Unit := OR c + tallyAt (barC (lft c)) () (if hasL c then 1 else 0)

/-- The launch's levels: the barrier below the receivers' semaphores, everything else at the bottom. -/
def L (g : GSem nD τ sig) : Finset Unit := if g.1.2 = .tc then {()} else ∅
/-- The level of a cell. -/
def lv (g : GSem nD τ sig) (_ : Unit) : ℕ := match g.2 with | .reg _ => 1 | .dma q => if 10 ≤ q.val then 2 else 0

/-- Only the main cores' cells have a level. -/
theorem L_of_ne (g : GSem nD τ sig) (h : g.1.2 ≠ .tc) : L g = ∅ := if_neg h
/-- They have one each. -/
theorem L_tc (c : Dev nD) (sm : SemLoc sig) : L ((c : Thread nD τ), sm) = {()} := if_pos rfl
/-- A receiver's level. -/
theorem lv_v (j : Fin 4) (c : Dev nD) : lv (vC j c) () = 2 := by fin_cases j <;> rfl

/-- Who owes a sum owes one of its terms. -/
theorem pos_add {A B : CellTallies nD τ sig Unit} {g : GSem nD τ sig} {u : Unit} (h : 0 < (A + B) g u) : 0 < A g u ∨ 0 < B g u := by
  rw [Pi.add_apply, Finsupp.add_apply] at h; omega
/-- A single debt is owed to its cell. -/
theorem pos_tally {g₀ g : GSem nD τ sig} {n : ℕ} {u : Unit} (h : 0 < tallyAt g₀ () n g u) : g = g₀ := by
  rw [tallyAt_apply] at h
  by_contra hn
  rw [if_neg (fun h' => hn h'.1)] at h; exact Nat.lt_irrefl 0 h

/-- Whatever is owed while the copies are outstanding is owed to a receiver's semaphore. -/
theorem OX_pos {c : Dev nD} {g : GSem nD τ sig} {u : Unit} (h : 0 < OX c g u) : ∃ j, g = vC j (tgt j c) := by
  rcases pos_add h with h | h
  · rcases pos_add h with h | h
    · rcases pos_add h with h | h
      · rcases pos_add h with h | h
        · exact absurd h (Nat.lt_irrefl 0)
        · exact ⟨3, pos_tally h⟩
      · exact ⟨2, pos_tally h⟩
    · exact ⟨1, pos_tally h⟩
  · exact ⟨0, pos_tally h⟩
/-- Whatever is owed at the launch is owed to a receiver's semaphore or to a barrier. -/
theorem O₀_pos {c : Dev nD} {g : GSem nD τ sig} {u : Unit} (h : 0 < O₀ c g u) :
    (∃ j, g = vC j (tgt j c)) ∨ ∃ d, g = barC d := by
  rcases pos_add h with h | h
  · rcases pos_add h with h | h
    · exact .inl (OX_pos h)
    · exact .inr ⟨_, pos_tally h⟩
  · exact .inr ⟨_, pos_tally h⟩

omit [FloatOps F] in
/-- A device may wait on a DMA semaphore that is no receiver's while it owes everything or nothing. -/
theorem mayWait_low (c : Dev nD) (q : DmaSem sig) (hq : q.val < 10) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨d, rfl⟩ <;> exact Finset.mem_singleton_self _)
      (fun p hp => by
        rw [Finset.mem_singleton.mp hp]; show (if 10 ≤ q.val then 2 else 0) ≤ 0
        rw [if_neg (by omega)])
      (fun g u hg => by
        rcases O₀_pos hg with ⟨j, rfl⟩ | ⟨d, rfl⟩
        · rw [lv_v]; decide
        · show 0 < 1; decide)
  · rw [MayWait_zero]; iintro -; iempintro

omit [FloatOps F] in
/-- At the barrier a device owes the copies alone. -/
theorem mayWait_bar (c : Dev nD) : (levAts L lv : sProp 𝕄) ⊢ MayWait (c : Thread nD τ) (.reg barS) () (OX c) :=
  MayOwe.of_cut (L := L) (lev := lv) 1 (fun p hp => by rw [Finset.mem_singleton.mp hp, L_tc]; exact Finset.mem_singleton_self _)
    (fun g u hg => by rcases OX_pos hg with ⟨j, rfl⟩; exact Finset.mem_singleton_self _)
    (fun p hp => by rw [Finset.mem_singleton.mp hp]; exact Nat.le_refl 1)
    (fun g u hg => by rcases OX_pos hg with ⟨j, rfl⟩; rw [lv_v]; decide)

end Cert.Halo
-- ==== Proof.Steps.lean ====
/-
# The guarded steps of the exchange

Each lemma here runs one guarded piece of the kernel — a signal, the two waits at the barrier, a pair of copies, a wait —
on a symbolic device. The guard is any decidable `p` that means "there is a neighbour on this side" (`hp`); when there is
none the piece does nothing and what it would have used stays as it was.
-/
module

public import proofs.«01_k».proof.Proof.Wire

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UW ℕ

variable (m : (ℓ : Loc nD τ sig) → Buf (Elt F) ℓ) (ρ : Dev nD → PrngReg)

abbrev 𝒱₀ : Variants := Variants.none

/-- The weakest precondition of a kernel fragment on device `c`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A resource held on a condition. -/
abbrev opt (b : Bool) (A : sProp 𝕄) : sProp 𝕄 := if b = true then A else iprop(emp)

/-- A debt, the record of waits not minded. -/
def owesAny (c : Dev nD) (O : CellTallies nD τ sig Unit) : sProp 𝕄 := iprop(∃ W : Waits sig Unit, owes (c : Thread nD τ) O W)

omit [FloatOps F] [Named F] in
/-- What is held on a true condition is held. -/
theorem opt_true (A : sProp 𝕄) : opt true A = A := if_pos rfl
omit [FloatOps F] [Named F] in
/-- On a false one nothing is. -/
theorem opt_false (A : sProp 𝕄) : opt false A = iprop(emp) := if_neg Bool.false_ne_true

/-- A guarded fragment, by its two cases. -/
theorem run_guard {α : Type} {p : Prop} [Decidable p] {b : Bool} (hp : p ↔ b = true) (c : Dev nD) (P : sProp 𝕄)
    (e : p → Prog (TpuEff nD τ sig (Elt F) Λ₀ .tc) α) (e' : Prog (TpuEff nD τ sig (Elt F) Λ₀ .tc) α) (Q : α → sProp 𝕄)
    (ht : ∀ h, b = true → P ⊢ run c (e h) Q) (hf : b = false → P ⊢ run c e' Q) :
    P ⊢ run c (if h : p then e h else e') Q := by
  by_cases h : p
  · rw [dif_pos h]; exact ht h (hp.mp h)
  · rw [dif_neg h]; exact hf (by cases b with | false => rfl | true => exact absurd (hp.mpr rfl) h)

/-! ## Names of the cells -/

/-- The index of device's cells: the barrier, the senders', the receivers'. -/
abbrev sI (j : Fin 4) : Fin 9 := ⟨1 + j.val, by omega⟩
abbrev vI (j : Fin 4) : Fin 9 := ⟨5 + j.val, by omega⟩

variable (K : Dev nD × Fin 9 → ℕ)

/-! ## Closing -/

/-- The sender's cell of a copy that does not happen closes at once; so does the receiver's of a slot nobody fills. -/
theorem idle_s (j : Fin 4) (c : Dev nD) (h : sends j c = false) :
    iprop(cellInv ER (Rd m ρ) (K (c, sI j)) (sC j c) ∗ atPos ER (sC j c) 0 ∅ 0) ⊢ iprop(|={Set.univ}=> semVal (sC j c) 0 : sProp 𝕄) :=
  Rounds.cell_close ER (Rd m ρ) (Set.mem_univ _) (fun h => h) (R := 0)
    (duties_none m ρ (sC j c) (by rw [duties_s, h]; exact if_neg Bool.false_ne_true))
/-- The receiver's cell of a slot nobody fills closes at once. -/
theorem idle_v (j : Fin 4) (c : Dev nD) (h : takes j c = false) :
    iprop(cellInv ER (Rd m ρ) (K (c, vI j)) (vC j c) ∗ atPos ER (vC j c) 0 ∅ 0) ⊢ iprop(|={Set.univ}=> semVal (vC j c) 0 : sProp 𝕄) :=
  Rounds.cell_close ER (Rd m ρ) (Set.mem_univ _) (fun h => h) (R := 0)
    (duties_none m ρ (vC j c) (by rw [duties_v, h]; exact if_neg Bool.false_ne_true))

/-! ## One wait -/

/-- Waiting for slot `j` to be filled: the slot holds the neighbour's block, and the cell is closed. -/
theorem wait_v (j : Fin 4) (c : Dev nD) (h : takes j c = true)
    {src dst : Memref sig .tc .vmem S2x128x4x64 .f32} {hsrc : src.view.WordExact} {hdst : dst.view.WordExact} (hN : dst.view.dmaCredit = N)
    {α : Type} {Q : α → sProp 𝕄} {k : PUnit → Prog (TpuEff nD τ sig (Elt F) Λ₀ .tc) α} :
    iprop(cellInv ER (Rd m ρ) (K (c, vI j)) (vC j c) ∗ cred (tallyAt (vC j c) () N) ∗ owesAny c 0 ∗ atPos ER (vC j c) 0 ∅ 0)
      ⊢ iprop(((owesAny c 0 ∗ semVal (vC j c) 0 ∗ slotAt j c (kv m ρ j (org j c))) -∗ run c (k ⟨⟩) Q)
          -∗ run c (.op (.waitDma2 (vS j) src dst hsrc hdst) k) Q) := by
  unfold owesAny
  iintro ⟨#HI, Hc, ⟨%W, HO⟩, Hat⟩ Hk
  iapply (Rounds.wp_wait_rest_token 𝒱₀ ER (Rd m ρ) (c : Thread nD τ) none (κ := K (c, vI j))
      (wpE_waitDma2_eq 𝒱₀ (c : Thread nD τ) none Set.univ) (Set.mem_univ _) () (O := 0) (W := W) (R := 0) (m := 0) (T := ∅)
      (by rw [Nat.zero_add, hN, expect_v m ρ c j h])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (Rd m ρ) (Set.mem_univ (K (c, vI j))) (fun h => h) (R := 0 + 1) (duties_later m ρ (vC j c))) $$ [Hat] with Hz
  · isplitr; · iexact HI
    iexact Hat
  iapply Hk
  isplitl [HO]; · iexists _; iexact HO
  isplitl [Hz]; · iexact Hz
  iapply (Entails.of_eq (rest_v m ρ c j h)); iexact Hpay

/-- Waiting for copy `j` to have left: the share it borrowed is back, and the cell is closed. -/
theorem wait_s (j : Fin 4) (c : Dev nD) (h : sends j c = true)
    {src dst : Memref sig .tc .vmem S2x128x4x64 .f32} {hsrc : src.view.WordExact} {hdst : dst.view.WordExact} (hN : dst.view.dmaCredit = N)
    {α : Type} {Q : α → sProp 𝕄} {k : PUnit → Prog (TpuEff nD τ sig (Elt F) Λ₀ .tc) α} :
    iprop(cellInv ER (Rd m ρ) (K (c, sI j)) (sC j c) ∗ cred (tallyAt (sC j c) () N) ∗ owesAny c 0 ∗ atPos ER (sC j c) 0 ∅ 0)
      ⊢ iprop(((owesAny c 0 ∗ semVal (sC j c) 0 ∗ srcPts m ρ j c) -∗ run c (k ⟨⟩) Q)
          -∗ run c (.op (.waitDma2 (sS j) src dst hsrc hdst) k) Q) := by
  unfold owesAny
  iintro ⟨#HI, Hc, ⟨%W, HO⟩, Hat⟩ Hk
  iapply (Rounds.wp_wait_rest_token 𝒱₀ ER (Rd m ρ) (c : Thread nD τ) none (κ := K (c, sI j))
      (wpE_waitDma2_eq 𝒱₀ (c : Thread nD τ) none Set.univ) (Set.mem_univ _) () (O := 0) (W := W) (R := 0) (m := 0) (T := ∅)
      (by rw [Nat.zero_add, hN, expect_s m ρ c j h])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (Rd m ρ) (Set.mem_univ (K (c, sI j))) (fun h => h) (R := 0 + 1) (duties_later m ρ (sC j c))) $$ [Hat] with Hz
  · isplitr; · iexact HI
    iexact Hat
  iapply Hk
  isplitl [HO]; · iexists _; iexact HO
  isplitl [Hz]; · iexact Hz
  iapply (Entails.of_eq (rest_s m ρ c j h)); iexact Hpay

/-! ## One copy -/

/-- What copy `j` needs to know: its two cells' invariants and that both are at round 0. -/
def chan (j : Fin 4) (c : Dev nD) : sProp 𝕄 :=
  iprop(cellInv ER (Rd m ρ) (K (c, sI j)) (sC j c) ∗ cellInv ER (Rd m ρ) (K (tgt j c, vI j)) (vC j (tgt j c))
    ∗ reached ER (sC j c) 0 ∗ reached ER (vC j (tgt j c)) 0)
instance chan_persistent (j : Fin 4) (c : Dev nD) : BI.Persistent (chan m ρ K j c) := by unfold chan; infer_instance
/-- The two payments copy `j` makes. -/
def toks (j : Fin 4) (c : Dev nD) : sProp 𝕄 :=
  iprop(dutyTok ER (sC j c) 0 false ∗ dutyTok ER (vC j (tgt j c)) 0 false)

/-- Copy `j` is issued: it borrows its share of the block, takes the neighbour's slot, and its debt is settled. -/
theorem copy (j : Fin 4) (c n : Dev nD) (hn : n = tgt j c) (hs : sends j c = true)
    {src : Memref sig .tc .vmem S2x128x4x64 .f32} {q : PosShare TreeShare} {fs : Buf (Elt F) (src.view.loc (c : Thread nD τ))}
    (hsrcP : srcPts m ρ j c = (src.view.loc (c : Thread nD τ) ↦[src.view.set]{q} fs : sProp 𝕄))
    (hread : src.view.read (Elt F) fs = kv m ρ j c) (hN : src.view.dmaCredit = N)
    {hsc : (slotM j : Memref sig (Dev.tc n : Thread nD τ).2.kind .vmem S2x128x4x64 .f32).view.ref.isScScratch = false}
    {hsrc : src.view.WordExact} {hdst : (slotM j).view.WordExact}
    {hsem : DmaTarget.Typed .vmem (.dma (vS j)) (.remote (Dev.tc n : Thread nD τ) (slotM j : Memref sig .tc .vmem S2x128x4x64 .f32) (.dma (sS j)) hsc)}
    (O O' : CellTallies nD τ sig Unit) (hO : O' = O + owe j c)
    {α : Type} {Q : α → sProp 𝕄} {k : PUnit → Prog (TpuEff nD τ sig (Elt F) Λ₀ .tc) α} :
    iprop(chan m ρ K j c ∗ toks j c ∗ srcPts m ρ j c ∗ anySlot j (tgt j c) ∗ owesAny c O')
      ⊢ iprop(((cred (tallyAt (sC j c) () N) ∗ owesAny c O) -∗ run c (k ⟨⟩) Q)
          -∗ run c (.op (.enqueueDma src (.remote (Dev.tc n : Thread nD τ) (slotM j) (.dma (sS j)) hsc) (.dma (vS j)) hsrc hdst hsem) k) Q) := by
  subst hn
  rw [hsrcP]
  unfold chan toks anySlot owesAny
  iintro ⟨⟨#HIs, #HIv, #Hrs, #Hrv⟩, ⟨Hts, Htv⟩, Hsrc, ⟨%fd, Hd⟩, ⟨%W, HO⟩⟩ Hk
  iapply (Rounds.wp_send_pointsTo 𝒱₀ ER (Rd m ρ) (c : Thread nD τ) none (κ₁ := K (c, sI j)) (κ₂ := K (tgt j c, vI j))
    (r₁ := 0) (r₂ := 0) (d₁ := false) (d₂ := false) (fd := fd)
    (by rw [duties_s, if_pos hs]; exact Finset.mem_singleton_self _)
    (by rw [duties_v, takes_tgt, if_pos hs]; exact Finset.mem_singleton_self _)
    () () N rfl (amount_s m ρ c j false) (amount_v m ρ (tgt j c) j false) O
    (show O' = O + tallyAt (vC j (tgt j c)) () N by rw [hO]; unfold owe; rw [if_pos hs]) (W := W)
    (by rw [payload_s, hsrcP])
    (by rw [payload_v, org_tgt]; unfold slotAt
        iintro H; iexists ((slotM j).view.write (Elt F) fd (src.view.read (Elt F) fs) Finset.univ)
        isplitr; · ipureintro; exact (View.read_write_univ _ _).trans hread
        iexact H)) $$ [Hsrc Hd HO Hts Htv]
  · isplitr; · iexact HIs
    isplitr; · iexact HIv
    isplitl [Hsrc]; · iexact Hsrc
    isplitl [Hd]; · iexact Hd
    isplitl [HO]; · iexact HO
    isplitl [Hts]; · iexact Hts
    isplitr; · iexact Hrs
    isplitl [Htv]; · iexact Htv
    iexact Hrv
  iintro ⟨Hc, HO⟩
  iapply Hk
  isplitl [Hc]; · iexact Hc
  iexists _; iexact HO

/-! ## The signals -/

/-- Telling the left neighbour: it gets slots 0 and 1; without one they stay here. -/
theorem signal_left {p : Prop} [Decidable p] (c : Dev nD) (hp : p ↔ hasL c = true) {n : p → Dev nD} (hn : ∀ h, n h = lft c)
    {Q : PUnit → sProp 𝕄} :
    iprop((cellInv ER (Rd m ρ) (K (lft c, 0)) (barC (lft c)) ∗ reached ER (barC (lft c)) 0 ∗ dutyTok ER (barC (lft c)) 0 true
        ∗ owesAny c (O₀ c) ∗ anySlot 0 c ∗ anySlot 1 c)
      ∗ ((owesAny c (OR c) ∗ opt (!hasL c) iprop(anySlot 0 c ∗ anySlot 1 c)) -∗ Q ⟨⟩))
      ⊢ run c (if h : p then (do semSignalWord (n h) barS 1#32; pure ⟨⟩) else (do pure ⟨⟩)) Q := by
  refine run_guard hp c _ _ _ _ (fun h hb => ?_) (fun hb => ?_)
  · rw [hn h, hb]
    simp only [semSignalWord, Prog.lift, Prog.bind_op, Prog.bind_ret, Prog.pure_eq_ret]
    unfold owesAny
    iintro ⟨⟨#HI, #Hr, Ht, ⟨%W, HO⟩, H0, H1⟩, Hk⟩
    iapply (Rounds.wp_signal 𝒱₀ ER (Rd m ρ) (c : Thread nD τ) none (dst := (lft c : Thread nD τ)) (κ := K (lft c, 0))
        (d := true) (by rw [duties_bar]; unfold barDuties; rw [Finset.mem_filter]; exact ⟨Finset.mem_univ _, (hasR_lft c).trans hb⟩)
        ((amount_bar m ρ (lft c) true).trans (by decide)) () (O₀ := O₀ c) (OR c) (by unfold O₀; rw [if_pos hb]; rfl))
      $$ [HO Ht H0 H1]
    · isplitr; · iexact HI
      isplitl [HO]; · iexact HO
      isplitl [Ht]; · iexact Ht
      isplitl [H0 H1]
      · rw [payload_bar]; unfold barPay; rw [if_pos rfl, rgt_lft]
        isplitl [H0] <;> iassumption
      · iexact Hr
    iintro HO
    rw [wp_ret]; imodintro
    iapply Hk
    isplitl [HO]; · iexists _; iexact HO
    rw [Bool.not_true, opt_false]; iempintro
  · rw [hb]
    iintro ⟨⟨-, -, -, HO, H0, H1⟩, Hk⟩
    unfold run; rw [wp_pure]; imodintro
    iapply Hk
    isplitl [HO]
    · rw [show O₀ c = OR c by unfold O₀; rw [hb, if_neg Bool.false_ne_true, tallyAt_zero, add_zero]]; iexact HO
    rw [Bool.not_false, opt_true]; isplitl [H0] <;> iassumption

/-- Telling the right neighbour: it gets slots 2 and 3; without one they stay here. -/
theorem signal_right {p : Prop} [Decidable p] (c : Dev nD) (hp : p ↔ hasR c = true) {n : p → Dev nD} (hn : ∀ h, n h = rgt c)
    {Q : PUnit → sProp 𝕄} :
    iprop((cellInv ER (Rd m ρ) (K (rgt c, 0)) (barC (rgt c)) ∗ reached ER (barC (rgt c)) 0 ∗ dutyTok ER (barC (rgt c)) 0 false
        ∗ owesAny c (OR c) ∗ anySlot 2 c ∗ anySlot 3 c)
      ∗ ((owesAny c (OX c) ∗ opt (!hasR c) iprop(anySlot 2 c ∗ anySlot 3 c)) -∗ Q ⟨⟩))
      ⊢ run c (if h : p then (do semSignalWord (n h) barS 1#32; pure ⟨⟩) else (do pure ⟨⟩)) Q := by
  refine run_guard hp c _ _ _ _ (fun h hb => ?_) (fun hb => ?_)
  · rw [hn h, hb]
    simp only [semSignalWord, Prog.lift, Prog.bind_op, Prog.bind_ret, Prog.pure_eq_ret]
    unfold owesAny
    iintro ⟨⟨#HI, #Hr, Ht, ⟨%W, HO⟩, H0, H1⟩, Hk⟩
    iapply (Rounds.wp_signal 𝒱₀ ER (Rd m ρ) (c : Thread nD τ) none (dst := (rgt c : Thread nD τ)) (κ := K (rgt c, 0))
        (d := false) (by rw [duties_bar]; unfold barDuties; rw [Finset.mem_filter]; exact ⟨Finset.mem_univ _, (hasL_rgt c).trans hb⟩)
        ((amount_bar m ρ (rgt c) false).trans (by decide)) () (O₀ := OR c) (OX c) (by unfold OR; rw [if_pos hb]; rfl))
      $$ [HO Ht H0 H1]
    · isplitr; · iexact HI
      isplitl [HO]; · iexact HO
      isplitl [Ht]; · iexact Ht
      isplitl [H0 H1]
      · rw [payload_bar]; unfold barPay; rw [if_neg Bool.false_ne_true, lft_rgt]
        isplitl [H0] <;> iassumption
      · iexact Hr
    iintro HO
    rw [wp_ret]; imodintro
    iapply Hk
    isplitl [HO]; · iexists _; iexact HO
    rw [Bool.not_true, opt_false]; iempintro
  · rw [hb]
    iintro ⟨⟨-, -, -, HO, H0, H1⟩, Hk⟩
    unfold run; rw [wp_pure]; imodintro
    iapply Hk
    isplitl [HO]
    · rw [show OR c = OX c by unfold OR; rw [hb, if_neg Bool.false_ne_true, tallyAt_zero, add_zero]]; iexact HO
    rw [Bool.not_false, opt_true]; isplitl [H0] <;> iassumption

/-! ## The barrier -/

/-- What the barrier hands over in all: the left neighbour's slots 2 and 3, the right neighbour's slots 0 and 1, of the
    neighbours there are. -/
def lent (c : Dev nD) : sProp 𝕄 :=
  iprop(opt (hasL c) iprop(anySlot 2 (lft c) ∗ anySlot 3 (lft c)) ∗ opt (hasR c) iprop(anySlot 0 (rgt c) ∗ anySlot 1 (rgt c)))

/-- The barrier's payments are those slots. -/
theorem rest_bar (c : Dev nD) :
    bigSep ((Rd (F := F) m ρ).duties (barC c) 0) (fun d => (Rd (F := F) m ρ).payload (barC c) 0 d) ⊢ lent c := by
  rw [duties_bar]
  unfold barDuties lent
  rw [show (fun d => (Rd (F := F) m ρ).payload (barC c) 0 d) = fun d => barPay c d from rfl]
  cases hl : hasL c <;> cases hr : hasR c
  · exact absurd (has_some c hl) (by rw [hr]; exact Bool.false_ne_true)
  · rw [show (Finset.univ.filter fun d : Bool => (if d then true else false) = true) = {true} by decide, bigSep_singleton]
    unfold barPay; rw [if_pos rfl, opt_false, opt_true]
    iintro H; isplitr; · iempintro
    iexact H
  · rw [show (Finset.univ.filter fun d : Bool => (if d then false else true) = true) = {false} by decide, bigSep_singleton]
    unfold barPay; rw [if_neg Bool.false_ne_true, opt_false, opt_true]
    iintro H; isplitl; · iexact H
    iempintro
  · rw [show (Finset.univ.filter fun d : Bool => (if d then true else true) = true) = Finset.univ by decide,
      bigSep_univ_eq_bigSepL [false, true] (by decide) (by decide), bigSepL_cons_cons, bigSepL_singleton]
    unfold barPay; rw [if_neg Bool.false_ne_true, if_pos rfl, opt_true, opt_true]
    exact BI.Entails.refl _

/-- How many words the barrier counts on device `c`. -/
abbrev barN (c : Dev nD) : ℕ := (if hasL c then 1 else 0) + (if hasR c then 1 else 0)
/-- That is the number of payments. -/
theorem barN_eq (c : Dev nD) : (barDuties c).card = barN c := by revert c; decide

/-- A device may wait at the barrier while it owes its copies. -/
theorem mayWait_bar' (c : Dev nD) : (levAts L lv : sProp 𝕄) ⊢ MayOwe (c : Thread nD τ) {(SemLoc.reg barS, ())} (OX c) :=
  mayWait_bar c

/-- The two waits at the barrier, one for each neighbour. -/
theorem barrier {p p' : Prop} [Decidable p] [Decidable p'] (c : Dev nD) (hp : p ↔ hasL c = true) (hp' : p' ↔ hasR c = true)
    {Q : PUnit → sProp 𝕄} :
    iprop((cellInv ER (Rd m ρ) (K (c, 0)) (barC c) ∗ cred (tallyAt (barC c) () (barN c)) ∗ levAts L lv
        ∗ owesAny c (OX c) ∗ atPos ER (barC c) 0 ∅ 0)
      ∗ ((owesAny c (OX c) ∗ semVal (barC c) 0 ∗ lent c) -∗ Q ⟨⟩))
      ⊢ run c (if h : p then (do semWaitWord barS 1#32; pure ⟨⟩) else (do pure ⟨⟩))
          (fun _ : PUnit => run c (if h : p' then (do semWaitWord barS 1#32; pure ⟨⟩) else (do pure ⟨⟩)) Q) := by
  have close : iprop(cellInv ER (Rd m ρ) (K (c, 0)) (barC c) ∗ atPos ER (barC c) (0 + 1) ∅ 0) ⊢ iprop(|={Set.univ}=> semVal (barC c) 0 : sProp 𝕄) :=
    Rounds.cell_close ER (Rd m ρ) (Set.mem_univ (K (c, 0))) (fun h => h) (R := 0 + 1) (duties_later m ρ (barC c))
  have card := barN_eq c
  have exp := expect_bar m ρ c
  refine run_guard hp c _ _ _ _ (fun h hl => ?_) (fun hl => ?_)
  · simp only [semWaitWord, Prog.lift, Prog.bind_op, Prog.bind_ret, Prog.pure_eq_ret]
    by_cases h' : p'
    · have hr := hp'.mp h'
      rw [dif_pos h']
      unfold barN at card ⊢; rw [if_pos hl, if_pos hr] at card ⊢
      rw [show tallyAt (barC c) () (1 + 1) = tallyAt (barC c) () 1 + tallyAt (barC c) () 1 from (tallyAt_add _ _ _ _).symm]
      unfold owesAny
      iintro ⟨⟨#HI, ⟨Hc, Hc'⟩, #Hlev, ⟨%W, HO⟩, Hat⟩, Hk⟩
      iapply (Rounds.wp_wait 𝒱₀ ER (Rd m ρ) (c : Thread nD τ) none (κ := K (c, 0))
          (wpE_semWait_eq 𝒱₀ (c : Thread nD τ) none Set.univ) (Set.mem_univ _) (cr := Finsupp.single () 1) (O := OX c) (W := W)
          {(SemLoc.reg barS, ())} (R := 0) (m := 0) (T := ∅)
          (by rw [Util.total_single]; decide) (Finset.image_subset_iff.mpr fun _ _ => Finset.mem_singleton_self _)) $$ [Hc HO Hat]
      · isplitr; · iexact HI
        isplitl [Hc]; · iexact Hc
        isplitl [HO]; · iexact HO
        isplitr; · iapply (mayWait_bar' c); iexact Hlev
        iexact Hat
      iintro %S ⟨%hS, HO, Hat, Hpay⟩
      rw [wp_ret]; imodintro
      iapply (Rounds.wp_wait_rest_token 𝒱₀ ER (Rd m ρ) (c : Thread nD τ) none (κ := K (c, 0))
          (wpE_semWait_eq 𝒱₀ (c : Thread nD τ) none Set.univ) (Set.mem_univ _) () (O := OX c) (R := 0) (m := 0 + (1#32).toNat) (T := S)
          (by rw [exp, card]; decide)) $$ [Hc' HO Hat]
      · isplitr; · iexact HI
        isplitl [Hc']; · iexact Hc'
        isplitl [HO]; · iexact HO
        isplitr; · iapply (mayWait_bar' c); iexact Hlev
        iexact Hat
      iintro ⟨HO, Hat, -, Hpay'⟩
      imod close $$ [Hat] with Hz
      · isplitr; · iexact HI
        iexact Hat
      rw [wp_ret]; imodintro
      iapply Hk
      isplitl [HO]; · iexists _; iexact HO
      isplitl [Hz]; · iexact Hz
      iapply (rest_bar m ρ c)
      rw [show bigSep ((Rd (F := F) m ρ).duties (barC c) 0) (fun d => (Rd (F := F) m ρ).payload (barC c) 0 d)
          = iprop(bigSep S (fun d => (Rd (F := F) m ρ).payload (barC c) 0 d)
            ∗ bigSep ((Rd (F := F) m ρ).duties (barC c) 0 \ S) (fun d => (Rd (F := F) m ρ).payload (barC c) 0 d))
          from BI.bigSep_sdiff_split hS.2.1]
      isplitl [Hpay]; · rw [Finset.sdiff_empty]; iexact Hpay
      iexact Hpay'
    · have hr : hasR c = false := by cases hc : hasR c with | false => rfl | true => exact absurd (hp'.mpr hc) h'
      rw [dif_neg h']
      unfold barN at card ⊢; rw [if_pos hl, hr, if_neg Bool.false_ne_true] at card ⊢
      unfold owesAny
      iintro ⟨⟨#HI, Hc, #Hlev, ⟨%W, HO⟩, Hat⟩, Hk⟩
      iapply (Rounds.wp_wait_rest_token 𝒱₀ ER (Rd m ρ) (c : Thread nD τ) none (κ := K (c, 0))
          (wpE_semWait_eq 𝒱₀ (c : Thread nD τ) none Set.univ) (Set.mem_univ _) () (O := OX c) (R := 0) (m := 0) (T := ∅)
          (by rw [exp, card]; decide)) $$ [Hc HO Hat]
      · isplitr; · iexact HI
        isplitl [Hc]; · iexact Hc
        isplitl [HO]; · iexact HO
        isplitr; · iapply (mayWait_bar' c); iexact Hlev
        iexact Hat
      iintro ⟨HO, Hat, -, Hpay⟩
      imod close $$ [Hat] with Hz
      · isplitr; · iexact HI
        iexact Hat
      rw [wp_ret]; imodintro
      unfold run; rw [wp_ret]; imodintro
      iapply Hk
      isplitl [HO]; · iexists _; iexact HO
      isplitl [Hz]; · iexact Hz
      iapply (rest_bar m ρ c)
      rw [Finset.sdiff_empty]; iexact Hpay
  · have hr := has_some c hl
    rw [dif_pos (hp'.mpr hr)]
    simp only [semWaitWord, Prog.lift, Prog.bind_op, Prog.bind_ret, Prog.pure_eq_ret]
    unfold barN at card ⊢; rw [if_pos hr, hl, if_neg Bool.false_ne_true] at card ⊢
    unfold owesAny
    iintro ⟨⟨#HI, Hc, #Hlev, ⟨%W, HO⟩, Hat⟩, Hk⟩
    unfold run; rw [wp_ret]; imodintro
    iapply (Rounds.wp_wait_rest_token 𝒱₀ ER (Rd m ρ) (c : Thread nD τ) none (κ := K (c, 0))
        (wpE_semWait_eq 𝒱₀ (c : Thread nD τ) none Set.univ) (Set.mem_univ _) () (O := OX c) (R := 0) (m := 0) (T := ∅)
        (by rw [exp, card]; decide)) $$ [Hc HO Hat]
    · isplitr; · iexact HI
      isplitl [Hc]; · iexact Hc
      isplitl [HO]; · iexact HO
      isplitr; · iapply (mayWait_bar' c); iexact Hlev
      iexact Hat
    iintro ⟨HO, Hat, -, Hpay⟩
    imod close $$ [Hat] with Hz
    · isplitr; · iexact HI
      iexact Hat
    rw [wp_ret]; imodintro
    iapply Hk
    isplitl [HO]; · iexists _; iexact HO
    isplitl [Hz]; · iexact Hz
    iapply (rest_bar m ρ c)
    rw [Finset.sdiff_empty]; iexact Hpay

end Cert.Halo
-- ==== Proof.Moves.lean ====
/-
# The guarded moves of data

The pair of copies to one neighbour, the waits for a neighbour's blocks, the waits for one's own copies to have left, and
the zero blocks a device at an end of the line puts into the slots nobody fills.
-/
module

public import proofs.«01_k».proof.Proof.Steps

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UW ℕ

variable (m : (ℓ : Loc nD τ sig) → Buf (Elt F) ℓ) (ρ : Dev nD → PrngReg)
variable (K : Dev nD × Fin 9 → ℕ)

omit [FloatOps F] [Named F] in
/-- The keys' buffer is the copies' source, as they address it. -/
theorem kPts_eq (q : PosShare TreeShare) (c : Dev nD) :
    kPts m ρ q c = (kM.view.loc (c : Thread nD τ) ↦[kM.view.set]{q} kstg m ρ c : sProp 𝕄) := by
  unfold kPts; rw [View.set_whole]
omit [FloatOps F] [Named F] in
/-- So is the values'. -/
theorem vPts_eq (q : PosShare TreeShare) (c : Dev nD) :
    vPts m ρ q c = (vM.view.loc (c : Thread nD τ) ↦[vM.view.set]{q} vstg m ρ c : sProp 𝕄) := by
  unfold vPts; rw [View.set_whole]

/-! ## The pair of copies to one neighbour -/

/-- After the pair: the two shares are away and will be credited, or they never left. -/
def away (b : Bool) (jk jv : Fin 4) (c : Dev nD) : sProp 𝕄 :=
  if b = true then iprop(cred (tallyAt (sC jk c) () N) ∗ cred (tallyAt (sC jv c) () N)) else iprop(srcPts m ρ jk c ∗ srcPts m ρ jv c)

/-- The keys and the values go to the neighbour, if there is one. -/
theorem copies {p : Prop} [Decidable p] (c : Dev nD) (b : Bool) (hp : p ↔ b = true) (jk jv : Fin 4)
    (hbk : sends jk c = b) (hbv : sends jv c = b) {n n' : p → Dev nD} (hn : ∀ h, n h = tgt jk c) (hn' : ∀ h, n' h = tgt jv c)
    {q : PosShare TreeShare} (hqk : srcPts m ρ jk c = kPts m ρ q c) (hqv : srcPts m ρ jv c = vPts m ρ q c)
    (hk : kv m ρ jk c = kstg m ρ c) (hv : kv m ρ jv c = vstg m ρ c)
    (O O1 O2 : CellTallies nD τ sig Unit) (h1 : O1 = O + owe jv c) (h2 : O2 = O1 + owe jk c)
    {hsck : ∀ h, (slotM jk : Memref sig (Dev.tc (n h) : Thread nD τ).2.kind .vmem S2x128x4x64 .f32).view.ref.isScScratch = false}
    {hscv : ∀ h, (slotM jv : Memref sig (Dev.tc (n' h) : Thread nD τ).2.kind .vmem S2x128x4x64 .f32).view.ref.isScScratch = false}
    {hsrck : p → kM.view.WordExact} {hsrcv : p → vM.view.WordExact}
    {hdstk : p → (slotM jk).view.WordExact} {hdstv : p → (slotM jv).view.WordExact}
    {hsemk : ∀ h, DmaTarget.Typed .vmem (.dma (vS jk)) (.remote (Dev.tc (n h) : Thread nD τ) (slotM jk : Memref sig .tc .vmem S2x128x4x64 .f32) (.dma (sS jk)) (hsck h))}
    {hsemv : ∀ h, DmaTarget.Typed .vmem (.dma (vS jv)) (.remote (Dev.tc (n' h) : Thread nD τ) (slotM jv : Memref sig .tc .vmem S2x128x4x64 .f32) (.dma (sS jv)) (hscv h))}
    {Q : PUnit → sProp 𝕄} :
    iprop((chan m ρ K jk c ∗ chan m ρ K jv c ∗ toks jk c ∗ toks jv c ∗ srcPts m ρ jk c ∗ srcPts m ρ jv c
        ∗ opt b iprop(anySlot jk (tgt jk c) ∗ anySlot jv (tgt jv c)) ∗ owesAny c O2)
      ∗ ((owesAny c O ∗ away m ρ b jk jv c) -∗ Q ⟨⟩))
      ⊢ run c (if h : p then (do
          Prog.lift (.enqueueDma kM (.remote (Dev.tc (n h) : Thread nD τ) (slotM jk) (.dma (sS jk)) (hsck h)) (.dma (vS jk)) (hsrck h) (hdstk h) (hsemk h))
          Prog.lift (.enqueueDma vM (.remote (Dev.tc (n' h) : Thread nD τ) (slotM jv) (.dma (sS jv)) (hscv h)) (.dma (vS jv)) (hsrcv h) (hdstv h) (hsemv h))
          pure ⟨⟩) else (do pure ⟨⟩)) Q := by
  refine run_guard hp c _ _ _ _ (fun h hb => ?_) (fun hb => ?_)
  · subst hb
    simp only [Prog.lift, Prog.bind_op, Prog.bind_ret, Prog.pure_eq_ret]
    rw [opt_true]; unfold away; rw [if_pos rfl]
    iintro ⟨⟨#Hck, #Hcv, Htk, Htv, Hsk, Hsv, ⟨Hdk, Hdv⟩, HO⟩, Hk⟩
    iapply (copy m ρ K jk c (n h) (hn h) hbk (src := kM) (q := q) (fs := kstg m ρ c) (hqk.trans (kPts_eq m ρ q c))
      ((View.read_whole _ _).trans hk.symm) rfl O1 O2 h2) $$ [Htk Hsk Hdk HO]
    · isplitr; · iexact Hck
      isplitl [Htk]; · iexact Htk
      isplitl [Hsk]; · iexact Hsk
      isplitl [Hdk] <;> iassumption
    iintro ⟨Hpk, HO⟩
    iapply (copy m ρ K jv c (n' h) (hn' h) hbv (src := vM) (q := q) (fs := vstg m ρ c) (hqv.trans (vPts_eq m ρ q c))
      ((View.read_whole _ _).trans hv.symm) rfl O O1 h1) $$ [Htv Hsv Hdv HO]
    · isplitr; · iexact Hcv
      isplitl [Htv]; · iexact Htv
      isplitl [Hsv]; · iexact Hsv
      isplitl [Hdv] <;> iassumption
    iintro ⟨Hpv, HO⟩
    unfold run; rw [wp_ret]; imodintro
    iapply Hk
    isplitl [HO]; · iexact HO
    isplitl [Hpk] <;> iassumption
  · subst hb
    unfold away; rw [if_neg Bool.false_ne_true]
    iintro ⟨⟨-, -, -, -, Hsk, Hsv, -, HO⟩, Hk⟩
    first | (unfold run; rw [wp_pure]) | rw [wp_pure]
    imodintro
    iapply Hk
    isplitl [HO]
    · rw [show O2 = O by rw [h2, h1]; unfold owe; rw [hbk, hbv, if_neg Bool.false_ne_true, tallyAt_zero, tallyAt_zero, add_zero, add_zero]]
      iexact HO
    isplitl [Hsk] <;> iassumption

/-! ## Waiting for a neighbour's keys -/

/-- What slot `j` holds in the end: the neighbour's block, or the zero block of a device at the end of the line. -/
def zeros : S2x128x4x64.Idx → Elt F .f32 := fun _ => Scalar.ofBits .f32 0x00000000#32
/-- What slot `j` of device `c` holds when the copies have arrived. -/
def halo (j : Fin 4) (c : Dev nD) : S2x128x4x64.Idx → Elt F .f32 := if takes j c = true then kv m ρ j (org j c) else zeros

omit [Named F] in
/-- A slot that is filled holds the neighbour's block. -/
theorem halo_in {j : Fin 4} {c : Dev nD} (h : takes j c = true) : halo m ρ j c = kv m ρ j (org j c) := if_pos h
omit [Named F] in
/-- One that nobody fills holds zeros. -/
theorem halo_out {j : Fin 4} {c : Dev nD} (h : takes j c = false) : halo m ρ j c = zeros := if_neg (by rw [h]; exact Bool.false_ne_true)
omit [FloatOps F] [Named F] in
/-- After the copies: their credits. -/
theorem away_true (jk jv : Fin 4) (c : Dev nD) :
    away m ρ true jk jv c = iprop(cred (tallyAt (sC jk c) () N) ∗ cred (tallyAt (sC jv c) () N)) := if_pos rfl
omit [FloatOps F] [Named F] in
/-- Without them: the shares still here. -/
theorem away_false (jk jv : Fin 4) (c : Dev nD) :
    away m ρ false jk jv c = iprop(srcPts m ρ jk c ∗ srcPts m ρ jv c) := if_neg Bool.false_ne_true

/-- What waiting on slot `j` needs. -/
def pend (j : Fin 4) (c : Dev nD) : sProp 𝕄 :=
  iprop(cellInv ER (Rd m ρ) (K (c, vI j)) (vC j c) ∗ cred (tallyAt (vC j c) () (if takes j c then N else 0)) ∗ atPos ER (vC j c) 0 ∅ 0)

/-- The guarded wait for a slot of keys: afterwards it holds what it should, whether there is a neighbour or not. -/
theorem arrive {p : Prop} [Decidable p] (c : Dev nD) (b : Bool) (hp : p ↔ b = true) (j : Fin 4) (hb : takes j c = b)
    {src : Memref sig .tc .vmem S2x128x4x64 .f32} {hsrc : p → src.view.WordExact} {hdst : p → (slotM j).view.WordExact}
    {Q : PUnit → sProp 𝕄} :
    iprop((pend m ρ K j c ∗ owesAny c 0 ∗ opt (!b) (slotAt j c zeros))
      ∗ ((owesAny c 0 ∗ semVal (vC j c) 0 ∗ slotAt j c (halo m ρ j c)) -∗ Q ⟨⟩))
      ⊢ run c (if h : p then (do
          Prog.lift (.waitDma2 (vS j) src (slotM j) (hsrc h) (hdst h))
          pure ⟨⟩) else (do pure ⟨⟩)) Q := by
  refine run_guard hp c _ _ _ _ (fun h hbt => ?_) (fun hbf => ?_)
  · subst hbt
    simp only [Prog.lift, Prog.bind_op, Prog.bind_ret, Prog.pure_eq_ret]
    unfold pend; rw [halo_in m ρ hb, if_pos hb]
    iintro ⟨⟨⟨#HI, Hc, Hat⟩, HO, -⟩, Hk⟩
    iapply (wait_v m ρ K j c hb (credit_slot j)) $$ [Hc HO Hat]
    · isplitr; · iexact HI
      isplitl [Hc]; · iexact Hc
      isplitl [HO] <;> iassumption
    iintro ⟨HO, Hz, Hs⟩
    unfold run; rw [wp_ret]; imodintro
    iapply Hk
    isplitl [HO]; · iexact HO
    isplitl [Hz] <;> iassumption
  · subst hbf
    unfold pend; rw [halo_out m ρ hb, Bool.not_false, opt_true]
    iintro ⟨⟨⟨#HI, -, Hat⟩, HO, Hs⟩, Hk⟩
    imod (idle_v m ρ K j c hb) $$ [Hat] with Hz
    · isplitr; · iexact HI
      iexact Hat
    first | (unfold run; rw [wp_pure]) | rw [wp_pure]
    imodintro
    iapply Hk
    isplitl [HO]; · iexact HO
    isplitl [Hz] <;> iassumption

/-! ## Waiting for a neighbour's values and for the own copies to it -/

/-- The guarded waits for a slot of values and for the two copies to that neighbour: afterwards the slot holds what it should and both shares are back. -/
theorem settle {p : Prop} [Decidable p] (c : Dev nD) (b : Bool) (hp : p ↔ b = true) (j jk jv : Fin 4) (hb : takes j c = b)
    (hbk : sends jk c = b) (hbv : sends jv c = b)
    {hsrc : p → vM.view.WordExact} {hdst : p → (slotM j).view.WordExact}
    {hsrck : p → (slotM jk).view.WordExact} {hdstk : p → kM.view.WordExact}
    {hsrcv : p → (slotM jv).view.WordExact} {hdstv : p → vM.view.WordExact}
    {Q : PUnit → sProp 𝕄} :
    iprop((pend m ρ K j c ∗ cellInv ER (Rd m ρ) (K (c, sI jk)) (sC jk c) ∗ cellInv ER (Rd m ρ) (K (c, sI jv)) (sC jv c)
        ∗ atPos ER (sC jk c) 0 ∅ 0 ∗ atPos ER (sC jv c) 0 ∅ 0 ∗ away m ρ b jk jv c ∗ owesAny c 0 ∗ opt (!b) (slotAt j c zeros))
      ∗ ((owesAny c 0 ∗ semVal (vC j c) 0 ∗ semVal (sC jk c) 0 ∗ semVal (sC jv c) 0 ∗ slotAt j c (halo m ρ j c)
          ∗ srcPts m ρ jk c ∗ srcPts m ρ jv c) -∗ Q ⟨⟩))
      ⊢ run c (if h : p then (do
          Prog.lift (.waitDma2 (vS j) vM (slotM j) (hsrc h) (hdst h))
          Prog.lift (.waitDma2 (sS jk) (slotM jk) kM (hsrck h) (hdstk h))
          Prog.lift (.waitDma2 (sS jv) (slotM jv) vM (hsrcv h) (hdstv h))
          pure ⟨⟩) else (do pure ⟨⟩)) Q := by
  refine run_guard hp c _ _ _ _ (fun h hbt => ?_) (fun hbf => ?_)
  · subst hbt
    simp only [Prog.lift, Prog.bind_op, Prog.bind_ret, Prog.pure_eq_ret]
    unfold pend; rw [halo_in m ρ hb, if_pos hb, away_true]
    iintro ⟨⟨⟨#HI, Hc, Hat⟩, #HIk, #HIv, Hatk, Hatv, ⟨Hck, Hcv⟩, HO, -⟩, Hk⟩
    iapply (wait_v m ρ K j c hb (credit_slot j)) $$ [Hc HO Hat]
    · isplitr; · iexact HI
      isplitl [Hc]; · iexact Hc
      isplitl [HO] <;> iassumption
    iintro ⟨HO, Hz, Hs⟩
    iapply (wait_s m ρ K jk c hbk (show kM.view.dmaCredit = N from rfl)) $$ [Hck HO Hatk]
    · isplitr; · iexact HIk
      isplitl [Hck]; · iexact Hck
      isplitl [HO] <;> iassumption
    iintro ⟨HO, Hzk, Hsk⟩
    iapply (wait_s m ρ K jv c hbv credit_v) $$ [Hcv HO Hatv]
    · isplitr; · iexact HIv
      isplitl [Hcv]; · iexact Hcv
      isplitl [HO] <;> iassumption
    iintro ⟨HO, Hzv, Hsv⟩
    unfold run; rw [wp_ret]; imodintro
    iapply Hk
    isplitl [HO]; · iexact HO
    isplitl [Hz]; · iexact Hz
    isplitl [Hzk]; · iexact Hzk
    isplitl [Hzv]; · iexact Hzv
    isplitl [Hs]; · iexact Hs
    isplitl [Hsk] <;> iassumption
  · subst hbf
    unfold pend; rw [halo_out m ρ hb, away_false, Bool.not_false, opt_true]
    iintro ⟨⟨⟨#HI, -, Hat⟩, #HIk, #HIv, Hatk, Hatv, ⟨Hsk, Hsv⟩, HO, Hs⟩, Hk⟩
    imod (idle_v m ρ K j c hb) $$ [Hat] with Hz
    · isplitr; · iexact HI
      iexact Hat
    imod (idle_s m ρ K jk c hbk) $$ [Hatk] with Hzk
    · isplitr; · iexact HIk
      iexact Hatk
    imod (idle_s m ρ K jv c hbv) $$ [Hatv] with Hzv
    · isplitr; · iexact HIv
      iexact Hatv
    first | (unfold run; rw [wp_pure]) | rw [wp_pure]
    imodintro
    iapply Hk
    isplitl [HO]; · iexact HO
    isplitl [Hz]; · iexact Hz
    isplitl [Hzk]; · iexact Hzk
    isplitl [Hzv]; · iexact Hzv
    isplitl [Hs]; · iexact Hs
    isplitl [Hsk] <;> iassumption

/-! ## Slots as the loads and stores see them -/

/-- A block as the vector unit sees it in its slot: two unit axes in front. -/
def unsq (X : S2x128x4x64.Idx → Elt F .f32) : S1x1x2x128x4x64.Idx → Elt F .f32 :=
  shapeCast S1x1x2x128x4x64 X shapeCasts_S2x128x4x64_S1x1x2x128x4x64

omit [FloatOps F] [Named F] in
/-- Dropping the unit axes gives the block back. -/
theorem sq_unsq (X : S2x128x4x64.Idx → Elt F .f32) :
    shapeCast S2x128x4x64 (unsq X) shapeCasts_S1x1x2x128x4x64_S2x128x4x64 = X := by
  unfold unsq shapeCast
  exact funext fun x => congrArg X (Shape.reshapeEquiv_eq_of_rowMajor _ (Shape.rowMajor_reshapeEquiv _ _).symm)

omit [FloatOps F] [Named F] in
/-- The slot's elements are its rectangle's. -/
theorem slot_set (j : Fin 4) : (slotM j).view.set = hM.view.setOn (slotR j).set := by
  rw [Memref.set_view_squeeze]; exact View.set_slice _ _

omit [FloatOps F] [Named F] in
/-- What a load of slot `j`'s rectangle reads when the slot holds `X`. -/
theorem read_slot (j : Fin 4) (c : Dev nD) (f : Buf (Elt F) ((slotM j).view.loc (c : Thread nD τ))) :
    hM.view.readAt (Elt F) (slotR j).toLoadRect f = unsq ((slotM j).view.read (Elt F) f) := by
  have h : (slotM j).view.read (Elt F) f
      = shapeCast S2x128x4x64 (hM.view.readAt (Elt F) (slotR j).toLoadRect f) shapeCasts_S1x1x2x128x4x64_S2x128x4x64 := rfl
  rw [h]; unfold unsq shapeCast
  exact funext fun x => congrArg (hM.view.readAt (Elt F) (slotR j).toLoadRect f)
    (Shape.reshapeEquiv_eq_of_rowMajor _ (Shape.rowMajor_reshapeEquiv _ _).symm).symm

/-- A load of slot `j`. -/
theorem load_slot (j : Fin 4) (c : Dev nD) (X : S2x128x4x64.Idx → Elt F .f32)
    {hl : hM.view.LoadsAt (slotR j).toLoadRect} {α : Type} {Q : α → sProp 𝕄}
    {k : ((slotR j).toLoadRect.shape.Idx → Elt F .f32) → Prog (TpuEff nD τ sig (Elt F) Λ₀ .tc) α} :
    iprop(slotAt j c X) ⊢ iprop((slotAt j c X -∗ run c (k (unsq X)) Q) -∗ run c (.op (.load hM (slotR j).toLoadRect hl) k) Q) := by
  unfold slotAt
  iintro ⟨%f, %hf, H⟩ Hk
  iapply (wp_load 𝒱₀ (c : Thread nD τ) none Set.univ (m := hM) (S := (slotM j).view.set) (f := f) (slot_set j).symm.subset) $$ H
  iintro H
  rw [read_slot j c f, hf]
  iapply Hk
  iexists f
  isplitr; · ipureintro; exact hf
  iexact H

/-- A load of slot `j` whatever it holds, followed by a store of the block `X` in it. -/
theorem fill_slot (j : Fin 4) (c : Dev nD) (w : S1x1x2x128x4x64.Idx → Elt F .f32) (X : S2x128x4x64.Idx → Elt F .f32)
    (hw : shapeCast S2x128x4x64 w shapeCasts_S1x1x2x128x4x64_S2x128x4x64 = X)
    {hl : hM.view.LoadsAt (slotR j).toLoadRect} {hx : (hM.access (slotR j)).Stores Finset.univ}
    {hm : (Finset.univ : Finset (slotR j).shape.Idx) = Finset.univ ∨ ∀ a, (slotR j).stride a = 1} {α : Type} {Q : α → sProp 𝕄}
    {k : PUnit → Prog (TpuEff nD τ sig (Elt F) Λ₀ .tc) α} :
    iprop(anySlot j c) ⊢ iprop((slotAt j c X -∗ run c (k ⟨⟩) Q)
      -∗ run c (.op (.load hM (slotR j).toLoadRect hl) fun _ => .op (.store hM (slotR j) w Finset.univ hx hm) k) Q) := by
  unfold slotAt anySlot
  iintro ⟨%f, H⟩ Hk
  iapply (wp_load 𝒱₀ (c : Thread nD τ) none Set.univ (m := hM) (S := (slotM j).view.set) (f := f) (slot_set j).symm.subset) $$ H
  iintro H
  iapply (wp_store 𝒱₀ (c : Thread nD τ) none Set.univ (m := hM) (r := slotR j) (Mk := Finset.univ) (S := (slotM j).view.set) (f := f)
    ((View.set_slice hM.view (slotR j)).trans (slot_set j).symm).subset) $$ H
  iintro H
  iapply Hk
  iexists ((hM.access (slotR j)).write (Elt F) f w Finset.univ)
  isplitr
  · ipureintro
    refine Eq.trans ?_ hw
    show shapeCast S2x128x4x64 ((hM.access (slotR j)).read (Elt F) ((hM.access (slotR j)).write (Elt F) f w Finset.univ)) _ = _
    rw [View.read_write_univ]
  iexact H

/-- The zero blocks into the two slots on a side without a neighbour. -/
theorem zero_fill {p : Prop} [Decidable p] (c : Dev nD) (b : Bool) (hp : p ↔ (!b) = true) (j j' : Fin 4)
    (w w' : S1x1x2x128x4x64.Idx → Elt F .f32)
    (hw : shapeCast S2x128x4x64 w shapeCasts_S1x1x2x128x4x64_S2x128x4x64 = zeros)
    (hw' : shapeCast S2x128x4x64 w' shapeCasts_S1x1x2x128x4x64_S2x128x4x64 = zeros)
    {hl : p → hM.view.LoadsAt (slotR j).toLoadRect} {hx : p → (hM.access (slotR j)).Stores Finset.univ}
    {hm : p → ((Finset.univ : Finset (slotR j).shape.Idx) = Finset.univ ∨ ∀ a, (slotR j).stride a = 1)}
    {hl' : p → hM.view.LoadsAt (slotR j').toLoadRect} {hx' : p → (hM.access (slotR j')).Stores Finset.univ}
    {hm' : p → ((Finset.univ : Finset (slotR j').shape.Idx) = Finset.univ ∨ ∀ a, (slotR j').stride a = 1)}
    {Q : PUnit → sProp 𝕄} :
    iprop(opt (!b) iprop(anySlot j c ∗ anySlot j' c)
      ∗ ((opt (!b) (slotAt j c zeros) ∗ opt (!b) (slotAt j' c zeros)) -∗ Q ⟨⟩))
      ⊢ run c (if h : p then (do
          let _ : Vec F S1x1x2x128x4x64 .f32 ← Prog.lift (.load hM (slotR j).toLoadRect (hl h))
          Prog.lift (.store hM (slotR j) w Finset.univ (hx h) (hm h))
          let _ : Vec F S1x1x2x128x4x64 .f32 ← Prog.lift (.load hM (slotR j').toLoadRect (hl' h))
          Prog.lift (.store hM (slotR j') w' Finset.univ (hx' h) (hm' h))
          pure ⟨⟩) else (do pure ⟨⟩)) Q := by
  refine run_guard hp c _ _ _ _ (fun h hb => ?_) (fun hb => ?_)
  · rw [hb]
    simp only [Prog.lift, Prog.bind_op, Prog.bind_ret, Prog.pure_eq_ret]
    rw [opt_true, opt_true, opt_true]
    iintro ⟨⟨H, H'⟩, Hk⟩
    iapply (fill_slot j c w zeros hw) $$ H
    iintro H
    iapply (fill_slot j' c w' zeros hw') $$ H'
    iintro H'
    unfold run; rw [wp_ret]; imodintro
    iapply Hk
    isplitl [H] <;> iassumption
  · rw [hb, opt_false, opt_false, opt_false]
    iintro ⟨-, Hk⟩
    first | (unfold run; rw [wp_pure]) | rw [wp_pure]
    imodintro
    iapply Hk
    isplitl; · iempintro
    iempintro

end Cert.Halo
-- ==== Proof.Parts.lean ====
/-
# The kernel's body, part by part

Each printed part of the body is run at a symbolic device from the guards of Steps and Moves. What the parts compute is named
here: the mask, the probabilities and the two halves of the result, as functions of the device.
-/
module

public import proofs.«01_k».proof.Proof.Moves
public import Idealize.ShloMosaic.Lib.WritesUnit
public import Idealize.ShloMosaic.Lib.ValueIdxCore

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UW ℕ

variable (m : (ℓ : Loc nD τ sig) → Buf (Elt F) ℓ) (ρ : Dev nD → PrngReg)
variable (K : Dev nD × Fin 9 → ℕ)

/-! ## Words -/

/-- The device's place, its neighbours' places, and whether it has them, as the kernel's words. -/
abbrev w2 (c : Dev nD) : BitVec 32 := Scalar.remsi (Scalar.divsi (Dev.word c) 1#32) 32#32
/-- The left neighbour. -/
abbrev w5 (c : Dev nD) : BitVec 32 := Scalar.remsi (Scalar.addi (Scalar.subi (w2 c) 1#32) 32#32) 32#32
/-- The right neighbour. -/
abbrev w7 (c : Dev nD) : BitVec 32 := Scalar.remsi (Scalar.addi (w2 c) 1#32) 32#32
/-- There is one to the left. -/
abbrev b8 (c : Dev nD) : BitVec 1 := Scalar.cmpi .ne (w2 c) 0#32
/-- There is one to the right. -/
abbrev b9 (c : Dev nD) : BitVec 1 := Scalar.cmpi .ne (w2 c) 31#32

/-- The guard of the signal to the left. -/
theorem g1 (c : Dev nD) : k0_cond1 c = 1#1 ↔ hasL c = true := by revert c; decide
/-- The guard of the signal to the right. -/
theorem g2 (c : Dev nD) : k0_cond2 c = 1#1 ↔ hasR c = true := by revert c; decide
/-- The guard of the copies to the right. -/
theorem g5 (c : Dev nD) : k0_cond5 c = 1#1 ↔ hasR c = true := by revert c; decide
/-- The guard of the copies to the left. -/
theorem g6 (c : Dev nD) : k0_cond6 c = 1#1 ↔ hasL c = true := by revert c; decide
/-- The guard of what is done for a left neighbour. -/
theorem g8 (c : Dev nD) : (Scalar.cmpi .ne (Scalar.extui (b8 c) : BitVec 32) 0#32 = 1#1) ↔ hasL c = true := by revert c; decide
/-- For a right neighbour. -/
theorem g9 (c : Dev nD) : (Scalar.cmpi .ne (Scalar.extui (b9 c) : BitVec 32) 0#32 = 1#1) ↔ hasR c = true := by revert c; decide
/-- The guard of the zeros where there is no left neighbour. -/
theorem g8n (c : Dev nD) : (Scalar.cmpi .ne (Scalar.extui (Scalar.xori (b8 c) 1#1) : BitVec 32) 0#32 = 1#1) ↔ (!hasL c) = true := by
  revert c; decide
/-- Where there is no right neighbour. -/
theorem g9n (c : Dev nD) : (Scalar.cmpi .ne (Scalar.extui (Scalar.xori (b9 c) 1#1) : BitVec 32) 0#32 = 1#1) ↔ (!hasR c) = true := by
  revert c; decide

/-! ## Semaphores as printed -/

/-- The sender's semaphore of copy 0. -/
theorem sem_s0 : ((cc0_scratch1.slice (Rect.unit (s := S4) ![0] S1.size inb_S4_S1_0)).squeeze S_ squeezes_S1_S_).sem = sS 0 := rfl
/-- The sender's semaphore of copy 1. -/
theorem sem_s1 : ((cc0_scratch1.slice (Rect.unit (s := S4) ![1] S1.size inb_S4_S1_1)).squeeze S_ squeezes_S1_S_).sem = sS 1 := rfl
/-- The sender's semaphore of copy 2. -/
theorem sem_s2 : ((cc0_scratch1.slice (Rect.unit (s := S4) ![2] S1.size inb_S4_S1_2)).squeeze S_ squeezes_S1_S_).sem = sS 2 := rfl
/-- The sender's semaphore of copy 3. -/
theorem sem_s3 : ((cc0_scratch1.slice (Rect.unit (s := S4) ![3] S1.size inb_S4_S1_3)).squeeze S_ squeezes_S1_S_).sem = sS 3 := rfl
/-- The receiver's semaphore of copy 0. -/
theorem sem_v0 : ((cc0_scratch2.slice (Rect.unit (s := S4) ![0] S1.size inb_S4_S1_0)).squeeze S_ squeezes_S1_S_).sem = vS 0 := rfl
/-- The receiver's semaphore of copy 1. -/
theorem sem_v1 : ((cc0_scratch2.slice (Rect.unit (s := S4) ![1] S1.size inb_S4_S1_1)).squeeze S_ squeezes_S1_S_).sem = vS 1 := rfl
/-- The receiver's semaphore of copy 2. -/
theorem sem_v2 : ((cc0_scratch2.slice (Rect.unit (s := S4) ![2] S1.size inb_S4_S1_2)).squeeze S_ squeezes_S1_S_).sem = vS 2 := rfl
/-- The receiver's semaphore of copy 3. -/
theorem sem_v3 : ((cc0_scratch2.slice (Rect.unit (s := S4) ![3] S1.size inb_S4_S1_3)).squeeze S_ squeezes_S1_S_).sem = vS 3 := rfl

/-! ## What the body computes -/

/-- The projected queries of the two batches. -/
abbrev q0 (c : Dev nD) : FVec F S128x256 .f32 := k0_pay8 (xstg m ρ c) (wqstg m ρ c)
/-- The second batch's queries. -/
abbrev q1 (c : Dev nD) : FVec F S128x256 .f32 := k0_pay9 (xstg m ρ c) (wqstg m ρ c)
/-- Which of the 384 keys in reach each query row sees. -/
abbrev mask (c : Dev nD) : IVec S128x384 1 :=
  k0_pay14 (w2 c) (w5 c) (w7 c) (k0_pay10 (w2 c)) (iota .tc S128x384 32 [1] iota_S128x384_d1_w32) k0_pay11 k0_pay12 k0_pay13 0#32

/-- The contents of slot `j` in the end, as the vector unit loads them. -/
abbrev hv (j : Fin 4) (c : Dev nD) : S1x1x2x128x4x64.Idx → Elt F .f32 := unsq (halo m ρ j c)
/-- The own keys, as loaded. -/
abbrev kc (c : Dev nD) : FVec F S2x128x4x64 .f32 := k0_pay15 (kstg m ρ c)
/-- The keys from the left. -/
abbrev kl (c : Dev nD) : FVec F S2x128x4x64 .f32 := k0_pay16 (hv m ρ 0 c)
/-- The keys from the right. -/
abbrev kr (c : Dev nD) : FVec F S2x128x4x64 .f32 := k0_pay17 (hv m ρ 2 c)
/-- The own values, as loaded. -/
abbrev vc (c : Dev nD) : FVec F S2x128x4x64 .f32 := k0_pay32 (vstg m ρ c)
/-- The values from the left. -/
abbrev vl (c : Dev nD) : FVec F S2x128x4x64 .f32 := k0_pay33 (hv m ρ 1 c)
/-- The values from the right. -/
abbrev vr (c : Dev nD) : FVec F S2x128x4x64 .f32 := k0_pay34 (hv m ρ 3 c)
/-- The weights of the projection, as loaded. -/
abbrev wo (c : Dev nD) : FVec F S256x512 .f32 := k0_pay35 (wostg m ρ c)

/-- The probabilities: batch 0, heads 0 to 3, then batch 1, heads 0 to 3. -/
abbrev p00 (c : Dev nD) : FVec F S128x384 .f32 := k0_pay18 (q0 m ρ c) (mask c) (kc m ρ c) (hv m ρ 0 c) (hv m ρ 2 c)
abbrev p01 (c : Dev nD) : FVec F S128x384 .f32 :=
  k0_pay21 (k0_pay19 (q0 m ρ c) (mask c) (kc m ρ c) (hv m ρ 0 c) (hv m ρ 2 c)) (k0_pay20 (q0 m ρ c) (mask c) (kc m ρ c) (hv m ρ 0 c) (hv m ρ 2 c))
abbrev p02 (c : Dev nD) : FVec F S128x384 .f32 := k0_pay22 (q0 m ρ c) (mask c) (kc m ρ c) (kl m ρ c) (kr m ρ c)
abbrev p03 (c : Dev nD) : FVec F S128x384 .f32 := k0_pay23 (q0 m ρ c) (mask c) (kc m ρ c) (kl m ρ c) (kr m ρ c)
abbrev p10 (c : Dev nD) : FVec F S128x384 .f32 := k0_pay26 (mask c) (kc m ρ c) (kr m ρ c) (k0_pay24 (q1 m ρ c)) (k0_pay25 (kl m ρ c))
abbrev p11 (c : Dev nD) : FVec F S128x384 .f32 := k0_pay27 (q1 m ρ c) (mask c) (kc m ρ c) (kl m ρ c) (kr m ρ c)
abbrev p12 (c : Dev nD) : FVec F S128x384 .f32 :=
  k0_pay30 (mask c) (k0_pay28 (q1 m ρ c)) (k0_pay29 (kc m ρ c) (kl m ρ c) (kr m ρ c)) (constant S128x384 .f32 0x00000000#32)
abbrev p13 (c : Dev nD) : FVec F S128x384 .f32 := k0_pay31 (q1 m ρ c) (mask c) (kc m ρ c) (kl m ρ c) (kr m ρ c)

/-- The two batches of the result. -/
def out0 (c : Dev nD) : FVec F S1x128x512 .f32 :=
  k0_pay38 (p01 m ρ c) (p02 m ρ c) (p03 m ρ c) (vc m ρ c) (vl m ρ c) (vr m ρ c) (wo m ρ c)
    (k0_pay36 (p00 m ρ c) (vstg m ρ c) (hv m ρ 1 c) (hv m ρ 3 c)) (k0_pay37 (vstg m ρ c) (hv m ρ 1 c) (hv m ρ 3 c))
    (constant S128x64 .f32 0x00000000#32)
/-- The second batch's result. -/
def out1 (c : Dev nD) : FVec F S1x128x512 .f32 :=
  k0_pay1 (p13 m ρ c) (vr m ρ c) (wo m ρ c) (k0_pay39 (p10 m ρ c) (vc m ρ c) (vl m ρ c) (vr m ρ c))
    (k0_pay40 (p11 m ρ c) (vc m ρ c) (vl m ρ c) (vr m ρ c)) (k0_pay41 (p12 m ρ c) (vc m ρ c) (vl m ρ c) (vr m ρ c))
    (k0_pay42 (vl m ρ c)) (k0_pay43 (vc m ρ c))

/-- The place of an element of the result within its batch. -/
def row (i : S2x128x512.Idx) : S1x128x512.Idx :=
  fun a => match a with | ⟨0, _⟩ => (0 : Fin 1) | ⟨1, _⟩ => i (1 : Fin 3) | ⟨2, _⟩ => i (2 : Fin 3)

/-- The result. -/
def outAt (c : Dev nD) : (cc0_stg5_0 : Ref sig .tc).ty.Contents (Elt F) :=
  fun i => if (i (0 : Fin 3)).val = 0 then out0 m ρ c (row i)
    else out1 m ρ c (row i)

/-- The first batch's part of the result. -/
abbrev rO0 : Rect S2x128x512 := Rect.unit (s := S2x128x512) ![0, 0, 0] S1x128x512.size inb_S2x128x512_S1x128x512_0_0_0
/-- The second batch's part. -/
abbrev rO1 : Rect S2x128x512 := Rect.unit (s := S2x128x512) ![1, 0, 0] S1x128x512.size inb_S2x128x512_S1x128x512_1_0_0

/-- The two stores leave the result, whatever was there. -/
theorem out_written (c : Dev nD) (f : (cc0_stg5_0 : Ref sig .tc).ty.Contents (Elt F)) :
    (oM.access rO1).write (Elt F) ((oM.access rO0).write (Elt F) f (out0 m ρ c) Finset.univ) (out1 m ρ c) Finset.univ = outAt m ρ c := by
  have h : oM.view.read (Elt F) (oM.view.writes (Elt F) f [⟨rO1, out1 m ρ c⟩, ⟨rO0, out0 m ρ c⟩]) = outAt m ρ c := by
    funext i
    have hi0 := (i (0 : Fin 3)).isLt
    unfold outAt
    split
    · rename_i h0
      refine (View.read_writes_cons_unit_of_not_mem oM.view f inb_S2x128x512_S1x128x512_1_0_0 (out1 m ρ c) _ i (off' := ![1, 0, 0]) rfl (0 : Fin 3)
        (Or.inl (show (i (0 : Fin 3)).val < 1 by omega))).trans ?_
      exact View.read_writes_cons_unit_of_mem oM.view f (by decide) (out0 m ρ c) _ i (row i) (off' := ![0, 0, 0]) rfl
        (fun a => match a with
          | ⟨0, _⟩ => h0
          | ⟨1, _⟩ => (Nat.zero_add _).symm
          | ⟨2, _⟩ => (Nat.zero_add _).symm)
    · rename_i h0
      exact View.read_writes_cons_unit_of_mem oM.view f (by decide) (out1 m ρ c) _ i (row i) (off' := ![1, 0, 0]) rfl
        (fun a => match a with
          | ⟨0, _⟩ => show (i (0 : Fin 3)).val = 1 + 0 by have : (i (0 : Fin 3)).val < 2 := hi0; omega
          | ⟨1, _⟩ => (Nat.zero_add _).symm
          | ⟨2, _⟩ => (Nat.zero_add _).symm)
  rw [View.writes_cons, View.writes_cons, View.writes_nil] at h
  exact (View.read_whole _ _).symm.trans h

/-! ## Sequencing -/

/-- A guarded fragment followed by the rest of the program. -/
theorem enter {α : Type} {p : Prop} [Decidable p] (c : Dev nD) {P R : sProp 𝕄} {e : p → Prog (TpuEff nD τ sig (Elt F) Λ₀ .tc) PUnit}
    (hg : ∀ Q' : PUnit → sProp 𝕄, iprop(P ∗ (R -∗ Q' ⟨⟩)) ⊢ run c (if h : p then e h else (do pure ⟨⟩)) Q')
    {a : p → Prog (TpuEff nD τ sig (Elt F) Λ₀ .tc) α} {k : Prog (TpuEff nD τ sig (Elt F) Λ₀ .tc) α}
    (ha : ∀ h, a h = (e h >>= fun _ => k)) {Q : α → sProp 𝕄} :
    P ⊢ iprop((R -∗ run c k Q) -∗ run c (if h : p then a h else k) Q) := by
  iintro HP Hk
  rw [show (if h : p then a h else k) = ((if h : p then e h else (do pure ⟨⟩)) >>= fun _ => k) by
    by_cases h : p
    · rw [dif_pos h, dif_pos h, ha]
    · rw [dif_neg h, dif_neg h]; rfl]
  unfold run
  rw [wp_bind]
  iapply (hg fun _ => wp frame (wpE (defs₀ (F := F)) 𝒱₀ (c : Thread nD τ) none) Set.univ k Q)
  isplitl [HP] <;> iassumption

/-- Two guarded fragments in a row followed by the rest of the program. -/
theorem enter2 {α : Type} {p p' : Prop} [Decidable p] [Decidable p'] (c : Dev nD) {P R : sProp 𝕄}
    {e : p → Prog (TpuEff nD τ sig (Elt F) Λ₀ .tc) PUnit} {e' : p' → Prog (TpuEff nD τ sig (Elt F) Λ₀ .tc) PUnit}
    (hg : ∀ Q' : PUnit → sProp 𝕄, iprop(P ∗ (R -∗ Q' ⟨⟩)) ⊢ run c (if h : p then e h else (do pure ⟨⟩))
      (fun _ : PUnit => run c (if h : p' then e' h else (do pure ⟨⟩)) Q'))
    {a : p → Prog (TpuEff nD τ sig (Elt F) Λ₀ .tc) α} {a' : p' → Prog (TpuEff nD τ sig (Elt F) Λ₀ .tc) α}
    {k : Prog (TpuEff nD τ sig (Elt F) Λ₀ .tc) α}
    (ha : ∀ h, a h = (e h >>= fun _ => if h : p' then a' h else k)) (ha' : ∀ h, a' h = (e' h >>= fun _ => k)) {Q : α → sProp 𝕄} :
    P ⊢ iprop((R -∗ run c k Q) -∗ run c (if h : p then a h else if h : p' then a' h else k) Q) := by
  iintro HP Hk
  rw [show (if h : p then a h else if h : p' then a' h else k)
      = ((if h : p then e h else (do pure ⟨⟩)) >>= fun _ => if h : p' then a' h else k) by
    by_cases h : p
    · rw [dif_pos h, dif_pos h, ha]
    · rw [dif_neg h, dif_neg h]; rfl,
    show (if h : p' then a' h else k) = ((if h : p' then e' h else (do pure ⟨⟩)) >>= fun _ => k) by
    by_cases h : p'
    · rw [dif_pos h, dif_pos h, ha']
    · rw [dif_neg h, dif_neg h]; rfl]
  unfold run
  rw [wp_bind]
  simp only [wp_bind]
  iapply (hg fun _ => wp frame (wpE (defs₀ (F := F)) 𝒱₀ (c : Thread nD τ) none) Set.univ k Q)
  isplitl [HP] <;> iassumption

/-- Reading the device's number. -/
theorem device_id {α : Type} (c : Dev nD) {k : Dev nD → Prog (TpuEff nD τ sig (Elt F) Λ₀ .tc) α} {Q : α → sProp 𝕄} :
    run c (k c) Q ⊢ run c (.op .deviceId k) Q := Entails.of_eq (wp_deviceId 𝒱₀ (c : Thread nD τ) none Set.univ).symm

/-- A fragment that is done. -/
theorem ret {α : Type} (c : Dev nD) {x : α} {Q : α → sProp 𝕄} : Q x ⊢ run c (.ret x) Q := by
  unfold run; rw [wp_ret]; iintro H; imodintro; iexact H

/-- The offsets of a whole load, of two axes. -/
theorem z2 : (![0, 0] : Fin 2 → Nat) = fun _ => 0 := by decide
/-- Of three. -/
theorem z3 : (![0, 0, 0] : Fin 3 → Nat) = fun _ => 0 := by decide
/-- Of four. -/
theorem z4 : (![0, 0, 0, 0] : Fin 4 → Nat) = fun _ => 0 := by decide

/-- A load of the whole block of inputs. -/
theorem load_x (c : Dev nD) {q : PosShare TreeShare} {f : (cc0_stg0_0 : Ref sig .tc).ty.Contents (Elt F)} {inb}
    {hl : xM.view.LoadsAt (Rect.unit (s := S2x128x512) ![0, 0, 0] S2x128x512.size inb).toLoadRect} {α : Type} {Q : α → sProp 𝕄}
    {k : (S2x128x512.Idx → Elt F .f32) → Prog (TpuEff nD τ sig (Elt F) Λ₀ .tc) α} :
    iprop(((c : Thread nD τ).loc cc0_stg0_0) ↦{q} f) ⊢ iprop(((((c : Thread nD τ).loc cc0_stg0_0) ↦{q} f) -∗ run c (k f) Q)
      -∗ run c (.op (.load xM (Rect.unit (s := S2x128x512) ![0, 0, 0] S2x128x512.size inb).toLoadRect hl) k) Q) := by
  iintro H Hk
  iapply (wp_load 𝒱₀ (c : Thread nD τ) none Set.univ (m := xM) (S := Finset.univ) (f := f) (Finset.subset_univ _)) $$ H
  iintro H
  have e : xM.view.readAt (Elt F) (Rect.unit (s := S2x128x512) ![0, 0, 0] S2x128x512.size inb).toLoadRect f = f :=
    Memref.readAt_unit_zero (Elt F) cc0_stg0_0 z3 _ f
  rw [e]
  iapply Hk; iexact H

/-- A load of the query weights. -/
theorem load_wq (c : Dev nD) {q : PosShare TreeShare} {f : (cc0_stg1_0 : Ref sig .tc).ty.Contents (Elt F)} {inb}
    {hl : wqM.view.LoadsAt (Rect.unit (s := S512x256) ![0, 0] S512x256.size inb).toLoadRect} {α : Type} {Q : α → sProp 𝕄}
    {k : (S512x256.Idx → Elt F .f32) → Prog (TpuEff nD τ sig (Elt F) Λ₀ .tc) α} :
    iprop(((c : Thread nD τ).loc cc0_stg1_0) ↦{q} f) ⊢ iprop(((((c : Thread nD τ).loc cc0_stg1_0) ↦{q} f) -∗ run c (k f) Q)
      -∗ run c (.op (.load wqM (Rect.unit (s := S512x256) ![0, 0] S512x256.size inb).toLoadRect hl) k) Q) := by
  iintro H Hk
  iapply (wp_load 𝒱₀ (c : Thread nD τ) none Set.univ (m := wqM) (S := Finset.univ) (f := f) (Finset.subset_univ _)) $$ H
  iintro H
  have e : wqM.view.readAt (Elt F) (Rect.unit (s := S512x256) ![0, 0] S512x256.size inb).toLoadRect f = f :=
    Memref.readAt_unit_zero (Elt F) cc0_stg1_0 z2 _ f
  rw [e]
  iapply Hk; iexact H

/-- A load of the whole block of keys. -/
theorem load_k (c : Dev nD) {q : PosShare TreeShare} {f : (cc0_stg2_0 : Ref sig .tc).ty.Contents (Elt F)} {inb}
    {hl : kM.view.LoadsAt (Rect.unit (s := S2x128x4x64) ![0, 0, 0, 0] S2x128x4x64.size inb).toLoadRect} {α : Type} {Q : α → sProp 𝕄}
    {k : (S2x128x4x64.Idx → Elt F .f32) → Prog (TpuEff nD τ sig (Elt F) Λ₀ .tc) α} :
    iprop(((c : Thread nD τ).loc cc0_stg2_0) ↦{q} f) ⊢ iprop(((((c : Thread nD τ).loc cc0_stg2_0) ↦{q} f) -∗ run c (k f) Q)
      -∗ run c (.op (.load kM (Rect.unit (s := S2x128x4x64) ![0, 0, 0, 0] S2x128x4x64.size inb).toLoadRect hl) k) Q) := by
  iintro H Hk
  iapply (wp_load 𝒱₀ (c : Thread nD τ) none Set.univ (m := kM) (S := Finset.univ) (f := f) (Finset.subset_univ _)) $$ H
  iintro H
  have e : kM.view.readAt (Elt F) (Rect.unit (s := S2x128x4x64) ![0, 0, 0, 0] S2x128x4x64.size inb).toLoadRect f = f :=
    Memref.readAt_unit_zero (Elt F) cc0_stg2_0 z4 _ f
  rw [e]
  iapply Hk; iexact H

/-- A load of the whole block of values. -/
theorem load_v (c : Dev nD) {q : PosShare TreeShare} {f : (cc0_stg3_0 : Ref sig .tc).ty.Contents (Elt F)} {inb}
    {hl : vM.view.LoadsAt (Rect.unit (s := S2x128x4x64) ![0, 0, 0, 0] S2x128x4x64.size inb).toLoadRect} {α : Type} {Q : α → sProp 𝕄}
    {k : (S2x128x4x64.Idx → Elt F .f32) → Prog (TpuEff nD τ sig (Elt F) Λ₀ .tc) α} :
    iprop(((c : Thread nD τ).loc cc0_stg3_0) ↦{q} f) ⊢ iprop(((((c : Thread nD τ).loc cc0_stg3_0) ↦{q} f) -∗ run c (k f) Q)
      -∗ run c (.op (.load vM (Rect.unit (s := S2x128x4x64) ![0, 0, 0, 0] S2x128x4x64.size inb).toLoadRect hl) k) Q) := by
  iintro H Hk
  iapply (wp_load 𝒱₀ (c : Thread nD τ) none Set.univ (m := vM) (S := Finset.univ) (f := f) (Finset.subset_univ _)) $$ H
  iintro H
  have e : vM.view.readAt (Elt F) (Rect.unit (s := S2x128x4x64) ![0, 0, 0, 0] S2x128x4x64.size inb).toLoadRect f = f :=
    Memref.readAt_unit_zero (Elt F) cc0_stg3_0 z4 _ f
  rw [e]
  iapply Hk; iexact H

/-- A load of the output weights. -/
theorem load_wo (c : Dev nD) {q : PosShare TreeShare} {f : (cc0_stg4_0 : Ref sig .tc).ty.Contents (Elt F)} {inb}
    {hl : woM.view.LoadsAt (Rect.unit (s := S256x512) ![0, 0] S256x512.size inb).toLoadRect} {α : Type} {Q : α → sProp 𝕄}
    {k : (S256x512.Idx → Elt F .f32) → Prog (TpuEff nD τ sig (Elt F) Λ₀ .tc) α} :
    iprop(((c : Thread nD τ).loc cc0_stg4_0) ↦{q} f) ⊢ iprop(((((c : Thread nD τ).loc cc0_stg4_0) ↦{q} f) -∗ run c (k f) Q)
      -∗ run c (.op (.load woM (Rect.unit (s := S256x512) ![0, 0] S256x512.size inb).toLoadRect hl) k) Q) := by
  iintro H Hk
  iapply (wp_load 𝒱₀ (c : Thread nD τ) none Set.univ (m := woM) (S := Finset.univ) (f := f) (Finset.subset_univ _)) $$ H
  iintro H
  have e : woM.view.readAt (Elt F) (Rect.unit (s := S256x512) ![0, 0] S256x512.size inb).toLoadRect f = f :=
    Memref.readAt_unit_zero (Elt F) cc0_stg4_0 z2 _ f
  rw [e]
  iapply Hk; iexact H

/-! ## The parts -/

/-- What a device holds of the others' schedule: names and tokens for its two signals and four copies. -/
def sigs (c : Dev nD) : sProp 𝕄 :=
  iprop(cellInv ER (Rd m ρ) (K (lft c, 0)) (barC (lft c)) ∗ reached ER (barC (lft c)) 0
    ∗ cellInv ER (Rd m ρ) (K (rgt c, 0)) (barC (rgt c)) ∗ reached ER (barC (rgt c)) 0
    ∗ cellInv ER (Rd m ρ) (K (c, 0)) (barC c) ∗ levAts L lv)
instance sigs_persistent (c : Dev nD) : BI.Persistent (sigs m ρ K c) := by unfold sigs; infer_instance
def sigToks (c : Dev nD) : sProp 𝕄 :=
  iprop(dutyTok ER (barC (lft c)) 0 true ∗ dutyTok ER (barC (rgt c)) 0 false ∗ cred (tallyAt (barC c) () (barN c)) ∗ atPos ER (barC c) 0 ∅ 0)
/-- The slots of a device without a right neighbour, and of one without a left neighbour, that it keeps. -/
abbrev kept (b : Bool) (j j' : Fin 4) (c : Dev nD) : sProp 𝕄 := opt (!b) iprop(anySlot j c ∗ anySlot j' c)

/-- The copies to the right. -/
theorem copies_right {p : Prop} [Decidable p] (c : Dev nD) (hp : p ↔ hasR c = true)
    {n n' : p → Dev nD} (hn : ∀ h, n h = rgt c) (hn' : ∀ h, n' h = rgt c) {Q : PUnit → sProp 𝕄} :
    iprop((chan m ρ K 0 c ∗ chan m ρ K 1 c ∗ toks 0 c ∗ toks 1 c ∗ srcPts m ρ 0 c ∗ srcPts m ρ 1 c
        ∗ opt (hasR c) iprop(anySlot 0 (rgt c) ∗ anySlot 1 (rgt c)) ∗ owesAny c (OX c))
      ∗ ((owesAny c (O2 c) ∗ away m ρ (hasR c) 0 1 c) -∗ Q ⟨⟩))
      ⊢ run c (if h : p then (do
          Prog.lift (.enqueueDma kM (.remote (Dev.tc (n h) : Thread nD τ) (slotM 0) (.dma (sS 0)) rfl) (.dma (vS 0))
            (Memref.isWhole_whole _).wordExact ((View.wordExact_bits rfl).reshape _ _) ⟨⟨rfl, Or.inl rfl⟩, trivial⟩)
          Prog.lift (.enqueueDma vM (.remote (Dev.tc (n' h) : Thread nD τ) (slotM 1) (.dma (sS 1)) rfl) (.dma (vS 1))
            (Memref.isWhole_whole _).wordExact ((View.wordExact_bits rfl).reshape _ _) ⟨⟨rfl, Or.inl rfl⟩, trivial⟩)
          pure ⟨⟩) else (do pure ⟨⟩)) Q :=
  copies m ρ K c (hasR c) hp 0 1 rfl rfl hn hn' (q := fullShare.right.left) rfl rfl rfl rfl (O2 c) (O1 c) (OX c) rfl rfl

/-- The copies to the left. -/
theorem copies_left {p : Prop} [Decidable p] (c : Dev nD) (hp : p ↔ hasL c = true)
    {n n' : p → Dev nD} (hn : ∀ h, n h = lft c) (hn' : ∀ h, n' h = lft c) {Q : PUnit → sProp 𝕄} :
    iprop((chan m ρ K 2 c ∗ chan m ρ K 3 c ∗ toks 2 c ∗ toks 3 c ∗ srcPts m ρ 2 c ∗ srcPts m ρ 3 c
        ∗ opt (hasL c) iprop(anySlot 2 (lft c) ∗ anySlot 3 (lft c)) ∗ owesAny c (O2 c))
      ∗ ((owesAny c (0) ∗ away m ρ (hasL c) 2 3 c) -∗ Q ⟨⟩))
      ⊢ run c (if h : p then (do
          Prog.lift (.enqueueDma kM (.remote (Dev.tc (n h) : Thread nD τ) (slotM 2) (.dma (sS 2)) rfl) (.dma (vS 2))
            (Memref.isWhole_whole _).wordExact ((View.wordExact_bits rfl).reshape _ _) ⟨⟨rfl, Or.inl rfl⟩, trivial⟩)
          Prog.lift (.enqueueDma vM (.remote (Dev.tc (n' h) : Thread nD τ) (slotM 3) (.dma (sS 3)) rfl) (.dma (vS 3))
            (Memref.isWhole_whole _).wordExact ((View.wordExact_bits rfl).reshape _ _) ⟨⟨rfl, Or.inl rfl⟩, trivial⟩)
          pure ⟨⟩) else (do pure ⟨⟩)) Q :=
  copies m ρ K c (hasL c) hp 2 3 rfl rfl hn hn' (q := fullShare.right.right) rfl rfl rfl rfl (0) (O3 c) (O2 c) rfl rfl

/-- Part 1: the signals, the barrier, the copies to the right. -/
theorem part1 (c : Dev nD) {Q : _ → sProp 𝕄} :
    iprop((sigs m ρ K c ∗ sigToks c ∗ owesAny c (O₀ c) ∗ (anySlot 0 c ∗ anySlot 1 c ∗ anySlot 2 c ∗ anySlot 3 c)
        ∗ chan m ρ K 0 c ∗ chan m ρ K 1 c ∗ toks 0 c ∗ toks 1 c ∗ srcPts m ρ 0 c ∗ srcPts m ρ 1 c)
      ∗ ((owesAny c (O2 c) ∗ semVal (barC c) 0 ∗ kept (hasL c) 0 1 c ∗ kept (hasR c) 2 3 c
          ∗ opt (hasL c) iprop(anySlot 2 (lft c) ∗ anySlot 3 (lft c)) ∗ away m ρ (hasR c) 0 1 c) -∗ Q ⟨c, w2 c, w5 c, w7 c, b8 c, b9 c⟩))
      ⊢ run c (k0_part1 xM (Memref.isWhole_whole _) wqM (Memref.isWhole_whole _) kM (Memref.isWhole_whole _) vM (Memref.isWhole_whole _)
          woM (Memref.isWhole_whole _) oM (Memref.isWhole_whole _) hM (Memref.isWhole_whole _) cc0_scratch1 cc0_scratch2) Q := by
  rw [k0_part1_eq_skeleton]
  unfold k0_part1_skel sigs sigToks
  simp only [Prog.lift, Prog.bind_op, Prog.bind_ret, Prog.pure_eq_ret]
  iintro ⟨⟨⟨#HIl, #Hrl, #HIr, #Hrr, #HIc, #Hlev⟩, ⟨Htl, Htr, Hcr, Hat⟩, HO, ⟨H0, H1, H2, H3⟩, #Hc0, #Hc1, Ht0, Ht1, Hs0, Hs1⟩, Hk⟩
  iapply (device_id c)
  iapply (enter c (fun Q' => signal_left m ρ K c (g1 c) (n := fun h => ⟨k0_dev1 c, k0_dev1_lt c h⟩) (fun h => Fin.ext (k0_dev1_eq c)) (Q := Q'))
    (fun h => rfl)) $$ [Htl HO H0 H1]
  · isplitr; · iexact HIl
    isplitr; · iexact Hrl
    isplitl [Htl]; · iexact Htl
    isplitl [HO]; · iexact HO
    isplitl [H0] <;> iassumption
  iintro ⟨HO, Hkl⟩
  iapply (enter c (fun Q' => signal_right m ρ K c (g2 c) (n := fun h => ⟨k0_dev2 c, k0_dev2_lt c h⟩) (fun h => Fin.ext (k0_dev2_eq c)) (Q := Q'))
    (fun h => rfl)) $$ [Htr HO H2 H3]
  · isplitr; · iexact HIr
    isplitr; · iexact Hrr
    isplitl [Htr]; · iexact Htr
    isplitl [HO]; · iexact HO
    isplitl [H2] <;> iassumption
  iintro ⟨HO, Hkr⟩
  iapply (enter2 c (fun Q' => barrier m ρ K c (g8 c) (g9 c) (Q := Q')) (fun h => rfl) (fun h => rfl)) $$ [Hcr HO Hat]
  · isplitr; · iexact HIc
    isplitl [Hcr]; · iexact Hcr
    isplitr; · iexact Hlev
    isplitl [HO] <;> iassumption
  unfold lent
  iintro ⟨HO, Hz, Hll, Hlr⟩
  iapply (enter c (fun Q' => copies_right m ρ K c (g5 c) (n := fun h => ⟨k0_dev3 c, k0_dev3_lt c h⟩)
      (n' := fun h => ⟨k0_dev4 c, k0_dev4_lt c h⟩) (fun h => Fin.ext (k0_dev3_eq c)) (fun h => Fin.ext (k0_dev4_eq c)) (Q := Q'))
    (fun h => rfl)) $$ [Ht0 Ht1 Hs0 Hs1 Hlr HO]
  · isplitr; · iexact Hc0
    isplitr; · iexact Hc1
    isplitl [Ht0]; · iexact Ht0
    isplitl [Ht1]; · iexact Ht1
    isplitl [Hs0]; · iexact Hs0
    isplitl [Hs1]; · iexact Hs1
    isplitl [Hlr]; · iexact Hlr
    iexact HO
  iintro ⟨HO, Haw⟩
  iapply (ret c)
  iapply Hk
  isplitl [HO]; · iexact HO
  isplitl [Hz]; · iexact Hz
  isplitl [Hkl]; · iexact Hkl
  isplitl [Hkr]; · iexact Hkr
  isplitl [Hll] <;> iassumption

/-- The staged blocks that nobody borrows. -/
def xPts (c : Dev nD) : sProp 𝕄 := ((c : Thread nD τ).loc cc0_stg0_0) ↦{fullShare} xstg m ρ c
def wqPts (c : Dev nD) : sProp 𝕄 := ((c : Thread nD τ).loc cc0_stg1_0) ↦{fullShare} wqstg m ρ c
def woPts (c : Dev nD) : sProp 𝕄 := ((c : Thread nD τ).loc cc0_stg4_0) ↦{fullShare} wostg m ρ c
/-- The result's staging buffer, holding anything; and holding `f`. -/
def outPts (c : Dev nD) (f : (cc0_stg5_0 : Ref sig .tc).ty.Contents (Elt F)) : sProp 𝕄 := ((c : Thread nD τ).loc cc0_stg5_0) ↦{fullShare} f

/-- Part 2: the copies to the left, the zero blocks, the queries. -/
theorem part2 (c : Dev nD) {Q : _ → sProp 𝕄} :
    iprop((chan m ρ K 2 c ∗ chan m ρ K 3 c ∗ toks 2 c ∗ toks 3 c ∗ srcPts m ρ 2 c ∗ srcPts m ρ 3 c
        ∗ opt (hasL c) iprop(anySlot 2 (lft c) ∗ anySlot 3 (lft c)) ∗ owesAny c (O2 c)
        ∗ kept (hasL c) 0 1 c ∗ kept (hasR c) 2 3 c ∗ xPts m ρ c ∗ wqPts m ρ c)
      ∗ ((owesAny c 0 ∗ away m ρ (hasL c) 2 3 c ∗ opt (!hasL c) (slotAt 0 c zeros) ∗ opt (!hasL c) (slotAt 1 c zeros)
          ∗ opt (!hasR c) (slotAt 2 c zeros) ∗ opt (!hasR c) (slotAt 3 c zeros) ∗ xPts m ρ c ∗ wqPts m ρ c)
        -∗ Q ⟨q0 m ρ c, q1 m ρ c, k0_pay10 (w2 c), iota .tc S128x384 32 [1] iota_S128x384_d1_w32, k0_pay11, k0_pay12, k0_pay13, 0#32⟩))
      ⊢ run c (k0_part2 xM (Memref.isWhole_whole _) wqM (Memref.isWhole_whole _) kM (Memref.isWhole_whole _) vM (Memref.isWhole_whole _)
          woM (Memref.isWhole_whole _) oM (Memref.isWhole_whole _) hM (Memref.isWhole_whole _) cc0_scratch1 cc0_scratch2 c (w2 c) (w5 c) (b8 c) (b9 c)) Q := by
  rw [k0_part2_eq_skeleton]
  unfold k0_part2_skel
  simp only [Prog.lift, Prog.bind_op, Prog.bind_ret, Prog.pure_eq_ret]
  iintro ⟨⟨#Hc2, #Hc3, Ht2, Ht3, Hs2, Hs3, Hll, HO, Hkl, Hkr, Hx, Hwq⟩, Hk⟩
  iapply (enter c (fun Q' => copies_left m ρ K c (g6 c) (n := fun h => ⟨k0_dev5 c, k0_dev5_lt c h⟩)
      (n' := fun h => ⟨k0_dev6 c, k0_dev6_lt c h⟩) (fun h => Fin.ext (k0_dev5_eq c)) (fun h => Fin.ext (k0_dev6_eq c)) (Q := Q'))
    (fun h => rfl)) $$ [Ht2 Ht3 Hs2 Hs3 Hll HO]
  · isplitr; · iexact Hc2
    isplitr; · iexact Hc3
    isplitl [Ht2]; · iexact Ht2
    isplitl [Ht3]; · iexact Ht3
    isplitl [Hs2]; · iexact Hs2
    isplitl [Hs3]; · iexact Hs3
    isplitl [Hll]; · iexact Hll
    iexact HO
  iintro ⟨HO, Haw⟩
  iapply (enter c (fun Q' => zero_fill c (hasL c) (g8n c) 0 1 (k0_pay2 (F := F)) (k0_pay3 (F := F)) rfl rfl
    (hl := fun _ => View.loadsAt_vmem h_S1x1x2x128x4x64) (hx := fun _ => View.stores_vmem_bits_univ h_S1x1x2x128x4x64 rfl) (hm := fun _ => .inl rfl)
    (hl' := fun _ => View.loadsAt_vmem h_S1x1x2x128x4x64) (hx' := fun _ => View.stores_vmem_bits_univ h_S1x1x2x128x4x64 rfl) (hm' := fun _ => .inl rfl)
    (Q := Q')) (fun h => rfl)) $$ Hkl
  iintro ⟨Hz0, Hz1⟩
  iapply (enter c (fun Q' => zero_fill c (hasR c) (g9n c) 2 3 (k0_pay4 (F := F)) (k0_pay5 (F := F)) rfl rfl
    (hl := fun _ => View.loadsAt_vmem h_S1x1x2x128x4x64) (hx := fun _ => View.stores_vmem_bits_univ h_S1x1x2x128x4x64 rfl) (hm := fun _ => .inl rfl)
    (hl' := fun _ => View.loadsAt_vmem h_S1x1x2x128x4x64) (hx' := fun _ => View.stores_vmem_bits_univ h_S1x1x2x128x4x64 rfl) (hm' := fun _ => .inl rfl)
    (Q := Q')) (fun h => rfl)) $$ Hkr
  iintro ⟨Hz2, Hz3⟩
  unfold xPts wqPts
  iapply (load_x c) $$ Hx
  iintro Hx
  iapply (load_wq c) $$ Hwq
  iintro Hwq
  iapply (ret c)
  iapply Hk
  isplitl [HO]; · iexact HO
  isplitl [Haw]; · iexact Haw
  isplitl [Hz0]; · iexact Hz0
  isplitl [Hz1]; · iexact Hz1
  isplitl [Hz2]; · iexact Hz2
  isplitl [Hz3]; · iexact Hz3
  isplitl [Hx] <;> iassumption

/-- The left neighbour's keys arrive. -/
theorem arrive_left {p : Prop} [Decidable p] (c : Dev nD) (hp : p ↔ hasL c = true) {Q : PUnit → sProp 𝕄} :
    iprop((pend m ρ K 0 c ∗ owesAny c 0 ∗ opt (!hasL c) (slotAt 0 c zeros))
      ∗ ((owesAny c 0 ∗ semVal (vC 0 c) 0 ∗ slotAt 0 c (halo m ρ 0 c)) -∗ Q ⟨⟩))
      ⊢ run c (if h : p then (do
          Prog.lift (.waitDma2 (vS 0) kM (slotM 0) (Memref.isWhole_whole _).wordExact ((View.wordExact_bits rfl).reshape _ _))
          pure ⟨⟩) else (do pure ⟨⟩)) Q :=
  arrive m ρ K c (hasL c) hp 0 rfl

/-- The right neighbour's keys arrive. -/
theorem arrive_right {p : Prop} [Decidable p] (c : Dev nD) (hp : p ↔ hasR c = true) {Q : PUnit → sProp 𝕄} :
    iprop((pend m ρ K 2 c ∗ owesAny c 0 ∗ opt (!hasR c) (slotAt 2 c zeros))
      ∗ ((owesAny c 0 ∗ semVal (vC 2 c) 0 ∗ slotAt 2 c (halo m ρ 2 c)) -∗ Q ⟨⟩))
      ⊢ run c (if h : p then (do
          Prog.lift (.waitDma2 (vS 2) kM (slotM 2) (Memref.isWhole_whole _).wordExact ((View.wordExact_bits rfl).reshape _ _))
          pure ⟨⟩) else (do pure ⟨⟩)) Q :=
  arrive m ρ K c (hasR c) hp 2 rfl

/-- The left neighbour's values arrive, and the own copies to the left are done. -/
theorem settle_left {p : Prop} [Decidable p] (c : Dev nD) (hp : p ↔ hasL c = true) {Q : PUnit → sProp 𝕄} :
    iprop((pend m ρ K 1 c ∗ cellInv ER (Rd m ρ) (K (c, sI 2)) (sC 2 c) ∗ cellInv ER (Rd m ρ) (K (c, sI 3)) (sC 3 c)
        ∗ atPos ER (sC 2 c) 0 ∅ 0 ∗ atPos ER (sC 3 c) 0 ∅ 0 ∗ away m ρ (hasL c) 2 3 c ∗ owesAny c 0 ∗ opt (!hasL c) (slotAt 1 c zeros))
      ∗ ((owesAny c 0 ∗ semVal (vC 1 c) 0 ∗ semVal (sC 2 c) 0 ∗ semVal (sC 3 c) 0 ∗ slotAt 1 c (halo m ρ 1 c)
          ∗ srcPts m ρ 2 c ∗ srcPts m ρ 3 c) -∗ Q ⟨⟩))
      ⊢ run c (if h : p then (do
          Prog.lift (.waitDma2 (vS 1) vM (slotM 1) (Memref.isWhole_whole _).wordExact ((View.wordExact_bits rfl).reshape _ _))
          Prog.lift (.waitDma2 (sS 2) (slotM 2) kM ((View.wordExact_bits rfl).reshape _ _) (Memref.isWhole_whole _).wordExact)
          Prog.lift (.waitDma2 (sS 3) (slotM 3) vM ((View.wordExact_bits rfl).reshape _ _) (Memref.isWhole_whole _).wordExact)
          pure ⟨⟩) else (do pure ⟨⟩)) Q :=
  settle m ρ K c (hasL c) hp 1 2 3 rfl rfl rfl

/-- The right neighbour's values arrive, and the own copies to the right are done. -/
theorem settle_right {p : Prop} [Decidable p] (c : Dev nD) (hp : p ↔ hasR c = true) {Q : PUnit → sProp 𝕄} :
    iprop((pend m ρ K 3 c ∗ cellInv ER (Rd m ρ) (K (c, sI 0)) (sC 0 c) ∗ cellInv ER (Rd m ρ) (K (c, sI 1)) (sC 1 c)
        ∗ atPos ER (sC 0 c) 0 ∅ 0 ∗ atPos ER (sC 1 c) 0 ∅ 0 ∗ away m ρ (hasR c) 0 1 c ∗ owesAny c 0 ∗ opt (!hasR c) (slotAt 3 c zeros))
      ∗ ((owesAny c 0 ∗ semVal (vC 3 c) 0 ∗ semVal (sC 0 c) 0 ∗ semVal (sC 1 c) 0 ∗ slotAt 3 c (halo m ρ 3 c)
          ∗ srcPts m ρ 0 c ∗ srcPts m ρ 1 c) -∗ Q ⟨⟩))
      ⊢ run c (if h : p then (do
          Prog.lift (.waitDma2 (vS 3) vM (slotM 3) (Memref.isWhole_whole _).wordExact ((View.wordExact_bits rfl).reshape _ _))
          Prog.lift (.waitDma2 (sS 0) (slotM 0) kM ((View.wordExact_bits rfl).reshape _ _) (Memref.isWhole_whole _).wordExact)
          Prog.lift (.waitDma2 (sS 1) (slotM 1) vM ((View.wordExact_bits rfl).reshape _ _) (Memref.isWhole_whole _).wordExact)
          pure ⟨⟩) else (do pure ⟨⟩)) Q :=
  settle m ρ K c (hasR c) hp 3 0 1 rfl rfl rfl

/-- Part 3: the waits for the neighbours' keys, the mask. -/
theorem part3 (c : Dev nD) {q : PosShare TreeShare} {Q : _ → sProp 𝕄} :
    iprop((pend m ρ K 0 c ∗ pend m ρ K 2 c ∗ owesAny c 0 ∗ opt (!hasL c) (slotAt 0 c zeros) ∗ opt (!hasR c) (slotAt 2 c zeros) ∗ kPts m ρ q c)
      ∗ ((owesAny c 0 ∗ semVal (vC 0 c) 0 ∗ semVal (vC 2 c) 0 ∗ slotAt 0 c (halo m ρ 0 c) ∗ slotAt 2 c (halo m ρ 2 c) ∗ kPts m ρ q c)
        -∗ Q ⟨mask c, kc m ρ c, hv m ρ 0 c⟩))
      ⊢ run c (k0_part3 xM (Memref.isWhole_whole _) wqM (Memref.isWhole_whole _) kM (Memref.isWhole_whole _) vM (Memref.isWhole_whole _)
          woM (Memref.isWhole_whole _) oM (Memref.isWhole_whole _) hM (Memref.isWhole_whole _) cc0_scratch1 cc0_scratch2 (w2 c) (w5 c) (w7 c) (b8 c) (b9 c)
          (k0_pay10 (w2 c)) (iota .tc S128x384 32 [1] iota_S128x384_d1_w32) k0_pay11 k0_pay12 k0_pay13 0#32) Q := by
  rw [k0_part3_eq_skeleton]
  unfold k0_part3_skel
  simp only [Prog.lift, Prog.bind_op, Prog.bind_ret, Prog.pure_eq_ret]
  iintro ⟨⟨Hp0, Hp2, HO, Hz0, Hz2, Hkk⟩, Hk⟩
  iapply (enter c (fun Q' => arrive_left m ρ K c (g8 c) (Q := Q')) (fun h => rfl)) $$ [Hp0 HO Hz0]
  · isplitl [Hp0]; · iexact Hp0
    isplitl [HO] <;> iassumption
  iintro ⟨HO, Hv0, Hs0⟩
  iapply (enter c (fun Q' => arrive_right m ρ K c (g9 c) (Q := Q')) (fun h => rfl)) $$ [Hp2 HO Hz2]
  · isplitl [Hp2]; · iexact Hp2
    isplitl [HO] <;> iassumption
  iintro ⟨HO, Hv2, Hs2⟩
  unfold kPts
  iapply (load_k c) $$ Hkk
  iintro Hkk
  iapply (load_slot 0 c (halo m ρ 0 c)) $$ Hs0
  iintro Hs0
  iapply (ret c)
  iapply Hk
  isplitl [HO]; · iexact HO
  isplitl [Hv0]; · iexact Hv0
  isplitl [Hv2]; · iexact Hv2
  isplitl [Hs0]; · iexact Hs0
  isplitl [Hs2] <;> iassumption

/-- Part 4: the right neighbour's keys are loaded. -/
theorem part4 (c : Dev nD) {Q : _ → sProp 𝕄} :
    iprop(slotAt 2 c (halo m ρ 2 c) ∗ (slotAt 2 c (halo m ρ 2 c) -∗ Q ⟨k0_pay16 (hv m ρ 0 c), k0_pay17 (hv m ρ 2 c), k0_pay18 (q0 m ρ c) (mask c) (kc m ρ c) (hv m ρ 0 c) (hv m ρ 2 c),
        k0_pay19 (q0 m ρ c) (mask c) (kc m ρ c) (hv m ρ 0 c) (hv m ρ 2 c), k0_pay20 (q0 m ρ c) (mask c) (kc m ρ c) (hv m ρ 0 c) (hv m ρ 2 c)⟩))
      ⊢ run c (k0_part4 xM (Memref.isWhole_whole _) wqM (Memref.isWhole_whole _) kM (Memref.isWhole_whole _) vM (Memref.isWhole_whole _)
          woM (Memref.isWhole_whole _) oM (Memref.isWhole_whole _) hM (Memref.isWhole_whole _) cc0_scratch1 cc0_scratch2 (q0 m ρ c) (mask c) (kc m ρ c) (hv m ρ 0 c)) Q := by
  rw [k0_part4_eq_skeleton]
  unfold k0_part4_skel
  simp only [Prog.lift, Prog.bind_op, Prog.bind_ret, Prog.pure_eq_ret]
  iintro ⟨Hs2, Hk⟩
  iapply (load_slot 2 c (halo m ρ 2 c)) $$ Hs2
  iintro Hs2
  iapply (ret c)
  iapply Hk
  iexact Hs2

/-- Part 8: the waits for the neighbours' values and for the own copies; the values are loaded. -/
theorem part8 (c : Dev nD) {q : PosShare TreeShare} (p : FVec F S128x384 .f32) {Q : _ → sProp 𝕄} :
    iprop((pend m ρ K 1 c ∗ pend m ρ K 3 c ∗ (cellInv ER (Rd m ρ) (K (c, sI 0)) (sC 0 c) ∗ cellInv ER (Rd m ρ) (K (c, sI 1)) (sC 1 c)
          ∗ cellInv ER (Rd m ρ) (K (c, sI 2)) (sC 2 c) ∗ cellInv ER (Rd m ρ) (K (c, sI 3)) (sC 3 c))
        ∗ (atPos ER (sC 0 c) 0 ∅ 0 ∗ atPos ER (sC 1 c) 0 ∅ 0 ∗ atPos ER (sC 2 c) 0 ∅ 0 ∗ atPos ER (sC 3 c) 0 ∅ 0)
        ∗ away m ρ (hasR c) 0 1 c ∗ away m ρ (hasL c) 2 3 c ∗ owesAny c 0
        ∗ opt (!hasL c) (slotAt 1 c zeros) ∗ opt (!hasR c) (slotAt 3 c zeros) ∗ vPts m ρ q c ∗ woPts m ρ c)
      ∗ ((owesAny c 0 ∗ semVal (vC 1 c) 0 ∗ semVal (vC 3 c) 0 ∗ (semVal (sC 0 c) 0 ∗ semVal (sC 1 c) 0 ∗ semVal (sC 2 c) 0 ∗ semVal (sC 3 c) 0)
          ∗ slotAt 1 c (halo m ρ 1 c) ∗ slotAt 3 c (halo m ρ 3 c)
          ∗ (srcPts m ρ 0 c ∗ srcPts m ρ 1 c ∗ srcPts m ρ 2 c ∗ srcPts m ρ 3 c) ∗ vPts m ρ q c ∗ woPts m ρ c)
        -∗ Q ⟨vc m ρ c, vl m ρ c, vr m ρ c, wo m ρ c, k0_pay36 p (vstg m ρ c) (hv m ρ 1 c) (hv m ρ 3 c),
            k0_pay37 (vstg m ρ c) (hv m ρ 1 c) (hv m ρ 3 c), constant S128x64 .f32 0x00000000#32⟩))
      ⊢ run c (k0_part8 xM (Memref.isWhole_whole _) wqM (Memref.isWhole_whole _) kM (Memref.isWhole_whole _) vM (Memref.isWhole_whole _)
          woM (Memref.isWhole_whole _) oM (Memref.isWhole_whole _) hM (Memref.isWhole_whole _) cc0_scratch1 cc0_scratch2 (w5 c) (w7 c) (b9 c) p (Scalar.cmpi .ne (Scalar.extui (b8 c) : BitVec 32) 0#32)) Q := by
  rw [k0_part8_eq_skeleton]
  unfold k0_part8_skel
  simp only [Prog.lift, Prog.bind_op, Prog.bind_ret, Prog.pure_eq_ret]
  iintro ⟨⟨Hp1, Hp3, ⟨#HI0, #HI1, #HI2, #HI3⟩, ⟨Ha0, Ha1, Ha2, Ha3⟩, Hr, Hl, HO, Hz1, Hz3, Hv, Hwo⟩, Hk⟩
  iapply (enter c (fun Q' => settle_left m ρ K c (g8 c) (Q := Q')) (fun h => rfl)) $$ [Hp1 Ha2 Ha3 Hl HO Hz1]
  · isplitl [Hp1]; · iexact Hp1
    isplitr; · iexact HI2
    isplitr; · iexact HI3
    isplitl [Ha2]; · iexact Ha2
    isplitl [Ha3]; · iexact Ha3
    isplitl [Hl]; · iexact Hl
    isplitl [HO] <;> iassumption
  iintro ⟨HO, Hv1, Hy2, Hy3, Hs1, Hb2, Hb3⟩
  iapply (enter c (fun Q' => settle_right m ρ K c (g9 c) (Q := Q')) (fun h => rfl)) $$ [Hp3 Ha0 Ha1 Hr HO Hz3]
  · isplitl [Hp3]; · iexact Hp3
    isplitr; · iexact HI0
    isplitr; · iexact HI1
    isplitl [Ha0]; · iexact Ha0
    isplitl [Ha1]; · iexact Ha1
    isplitl [Hr]; · iexact Hr
    isplitl [HO] <;> iassumption
  iintro ⟨HO, Hv3, Hy0, Hy1, Hs3, Hb0, Hb1⟩
  unfold vPts woPts
  iapply (load_v c) $$ Hv
  iintro Hv
  iapply (load_slot 1 c (halo m ρ 1 c)) $$ Hs1
  iintro Hs1
  iapply (load_slot 3 c (halo m ρ 3 c)) $$ Hs3
  iintro Hs3
  iapply (load_wo c) $$ Hwo
  iintro Hwo
  iapply (ret c)
  iapply Hk
  isplitl [HO]; · iexact HO
  isplitl [Hv1]; · iexact Hv1
  isplitl [Hv3]; · iexact Hv3
  isplitl [Hy0 Hy1 Hy2 Hy3]
  · isplitl [Hy0]; · iexact Hy0
    isplitl [Hy1]; · iexact Hy1
    isplitl [Hy2] <;> iassumption
  isplitl [Hs1]; · iexact Hs1
  isplitl [Hs3]; · iexact Hs3
  isplitl [Hb0 Hb1 Hb2 Hb3]
  · isplitl [Hb0]; · iexact Hb0
    isplitl [Hb1]; · iexact Hb1
    isplitl [Hb2] <;> iassumption
  isplitl [Hv] <;> iassumption

/-- Part 5 is pure. -/
theorem part5 (c : Dev nD) {Q : _ → sProp 𝕄} :
    Q ⟨p01 m ρ c, p02 m ρ c, p03 m ρ c, k0_pay24 (q1 m ρ c), k0_pay25 (kl m ρ c)⟩
      ⊢ run c (k0_part5 xM (Memref.isWhole_whole _) wqM (Memref.isWhole_whole _) kM (Memref.isWhole_whole _) vM (Memref.isWhole_whole _)
          woM (Memref.isWhole_whole _) oM (Memref.isWhole_whole _) hM (Memref.isWhole_whole _) cc0_scratch1 cc0_scratch2 (q0 m ρ c) (q1 m ρ c) (mask c) (kc m ρ c) (kl m ρ c) (kr m ρ c) (k0_pay19 (q0 m ρ c) (mask c) (kc m ρ c) (hv m ρ 0 c) (hv m ρ 2 c)) (k0_pay20 (q0 m ρ c) (mask c) (kc m ρ c) (hv m ρ 0 c) (hv m ρ 2 c))) Q := by
  rw [k0_part5_eq_skeleton]
  exact ret c

/-- Part 6 is pure. -/
theorem part6 (c : Dev nD) {Q : _ → sProp 𝕄} :
    Q ⟨p10 m ρ c, p11 m ρ c, k0_pay28 (q1 m ρ c), k0_pay29 (kc m ρ c) (kl m ρ c) (kr m ρ c), constant S128x384 .f32 0x00000000#32⟩
      ⊢ run c (k0_part6 xM (Memref.isWhole_whole _) wqM (Memref.isWhole_whole _) kM (Memref.isWhole_whole _) vM (Memref.isWhole_whole _)
          woM (Memref.isWhole_whole _) oM (Memref.isWhole_whole _) hM (Memref.isWhole_whole _) cc0_scratch1 cc0_scratch2 (q1 m ρ c) (mask c) (kc m ρ c) (kl m ρ c) (kr m ρ c) (k0_pay24 (q1 m ρ c)) (k0_pay25 (kl m ρ c))) Q := by
  rw [k0_part6_eq_skeleton]
  exact ret c

/-- Part 7 is pure. -/
theorem part7 (c : Dev nD) {Q : _ → sProp 𝕄} :
    Q ⟨p12 m ρ c, p13 m ρ c, Scalar.cmpi .ne (Scalar.extui (b8 c) : BitVec 32) 0#32⟩
      ⊢ run c (k0_part7 xM (Memref.isWhole_whole _) wqM (Memref.isWhole_whole _) kM (Memref.isWhole_whole _) vM (Memref.isWhole_whole _)
          woM (Memref.isWhole_whole _) oM (Memref.isWhole_whole _) hM (Memref.isWhole_whole _) cc0_scratch1 cc0_scratch2 (b8 c) (q1 m ρ c) (mask c) (kc m ρ c) (kl m ρ c) (kr m ρ c) (k0_pay28 (q1 m ρ c)) (k0_pay29 (kc m ρ c) (kl m ρ c) (kr m ρ c)) (constant S128x384 .f32 0x00000000#32)) Q := by
  rw [k0_part7_eq_skeleton]
  exact ret c

/-- A load of a batch of the result's buffer, whose value goes unused. -/
theorem load_o (r : Rect S2x128x512) (c : Dev nD) {f : (cc0_stg5_0 : Ref sig .tc).ty.Contents (Elt F)}
    {hl : oM.view.LoadsAt r.toLoadRect} {α : Type} {Q : α → sProp 𝕄}
    {k : (r.toLoadRect.shape.Idx → Elt F .f32) → Prog (TpuEff nD τ sig (Elt F) Λ₀ .tc) α} :
    outPts c f ⊢ iprop((outPts c f -∗ run c (k (oM.view.readAt (Elt F) r.toLoadRect f)) Q) -∗ run c (.op (.load oM r.toLoadRect hl) k) Q) :=
  wp_load 𝒱₀ (c : Thread nD τ) none Set.univ (m := oM) (S := Finset.univ) (f := f) (Finset.subset_univ _)

/-- A store of a batch of the result. -/
theorem store_o (r : Rect S2x128x512) (c : Dev nD) {f : (cc0_stg5_0 : Ref sig .tc).ty.Contents (Elt F)} {w : r.shape.Idx → Elt F .f32}
    {hx : (oM.access r).Stores Finset.univ} {hm : (Finset.univ : Finset r.shape.Idx) = Finset.univ ∨ ∀ a, r.stride a = 1} {α : Type} {Q : α → sProp 𝕄}
    {k : PUnit → Prog (TpuEff nD τ sig (Elt F) Λ₀ .tc) α} :
    outPts c f ⊢ iprop((outPts c ((oM.access r).write (Elt F) f w Finset.univ) -∗ run c (k ⟨⟩) Q)
      -∗ run c (.op (.store oM r w Finset.univ hx hm) k) Q) :=
  wp_store 𝒱₀ (c : Thread nD τ) none Set.univ (m := oM) (r := r) (Mk := Finset.univ) (S := Finset.univ) (f := f) (Finset.subset_univ _)

/-- Part 9: the first batch of the result is stored. -/
theorem part9 (c : Dev nD) (f : (cc0_stg5_0 : Ref sig .tc).ty.Contents (Elt F)) (p1 p2 p3 r0 r1 r2 : FVec F S128x384 .f32)
    (v l r : FVec F S2x128x4x64 .f32) (w : FVec F S256x512 .f32) (a : FVec F S128x64 .f32) (b : FVec F S384x64 .f32) (z : FVec F S128x64 .f32)
    {Q : _ → sProp 𝕄} :
    iprop(outPts c f ∗ (outPts c ((oM.access rO0).write (Elt F) f (k0_pay38 p1 p2 p3 v l r w a b z) Finset.univ)
        -∗ Q ⟨k0_pay39 r0 v l r, k0_pay40 r1 v l r, k0_pay41 r2 v l r, k0_pay42 l, k0_pay43 v⟩))
      ⊢ run c (k0_part9 xM (Memref.isWhole_whole _) wqM (Memref.isWhole_whole _) kM (Memref.isWhole_whole _) vM (Memref.isWhole_whole _)
          woM (Memref.isWhole_whole _) oM (Memref.isWhole_whole _) hM (Memref.isWhole_whole _) cc0_scratch1 cc0_scratch2 p1 p2 p3 r0 r1 r2 v l r w a b z) Q := by
  rw [k0_part9_eq_skeleton]
  unfold k0_part9_skel
  simp only [Prog.lift, Prog.bind_op, Prog.bind_ret, Prog.pure_eq_ret]
  iintro ⟨Ho, Hk⟩
  iapply (load_o rO0 c) $$ Ho
  iintro Ho
  iapply (store_o rO0 c) $$ Ho
  iintro Ho
  iapply (ret c)
  iapply Hk
  iexact Ho

end Cert.Halo
-- ==== Proof.Body.lean ====
/-
# The whole body

The parts in sequence: from what a device holds at the start, the body ends with every semaphore of the device at rest, every
borrowed piece back, and the result's buffer holding the result.
-/
module

public import proofs.«01_k».proof.Proof.Parts

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UW ℕ

variable (m : (ℓ : Loc nD τ sig) → Buf (Elt F) ℓ) (ρ : Dev nD → PrngReg)
variable (K : Dev nD × Fin 9 → ℕ)

/-- Running one program after another. -/
theorem bind {α β : Type} (c : Dev nD) {p : Prog (TpuEff nD τ sig (Elt F) Λ₀ .tc) α} {k : α → Prog (TpuEff nD τ sig (Elt F) Λ₀ .tc) β}
    {Q : β → sProp 𝕄} : run c p (fun x => run c (k x) Q) ⊢ run c (p >>= k) Q := (BiEntails.of_eq (wp_bind _ _ _ p k Q)).2

/-- What a device starts its body with. -/
def bodyPre (c : Dev nD) : sProp 𝕄 :=
  iprop((sigs m ρ K c ∗ chan m ρ K 0 c ∗ chan m ρ K 1 c ∗ chan m ρ K 2 c ∗ chan m ρ K 3 c
      ∗ (cellInv ER (Rd m ρ) (K (c, sI 0)) (sC 0 c) ∗ cellInv ER (Rd m ρ) (K (c, sI 1)) (sC 1 c)
          ∗ cellInv ER (Rd m ρ) (K (c, sI 2)) (sC 2 c) ∗ cellInv ER (Rd m ρ) (K (c, sI 3)) (sC 3 c)))
    ∗ sigToks c ∗ (toks 0 c ∗ toks 1 c ∗ toks 2 c ∗ toks 3 c)
    ∗ (pend m ρ K 0 c ∗ pend m ρ K 1 c ∗ pend m ρ K 2 c ∗ pend m ρ K 3 c)
    ∗ (atPos ER (sC 0 c) 0 ∅ 0 ∗ atPos ER (sC 1 c) 0 ∅ 0 ∗ atPos ER (sC 2 c) 0 ∅ 0 ∗ atPos ER (sC 3 c) 0 ∅ 0)
    ∗ owesAny c (O₀ c) ∗ (anySlot 0 c ∗ anySlot 1 c ∗ anySlot 2 c ∗ anySlot 3 c)
    ∗ xPts m ρ c ∗ wqPts m ρ c ∗ kPts m ρ fullShare c ∗ vPts m ρ fullShare c ∗ woPts m ρ c ∗ (∃ f, outPts c f))

/-- What a device ends its body with. -/
def bodyPost (c : Dev nD) : sProp 𝕄 :=
  iprop(owesAny c 0 ∗ semVal (barC c) 0
    ∗ (semVal (sC 0 c) 0 ∗ semVal (sC 1 c) 0 ∗ semVal (sC 2 c) 0 ∗ semVal (sC 3 c) 0)
    ∗ (semVal (vC 0 c) 0 ∗ semVal (vC 1 c) 0 ∗ semVal (vC 2 c) 0 ∗ semVal (vC 3 c) 0)
    ∗ (anySlot 0 c ∗ anySlot 1 c ∗ anySlot 2 c ∗ anySlot 3 c)
    ∗ xPts m ρ c ∗ wqPts m ρ c ∗ kPts m ρ fullShare c ∗ vPts m ρ fullShare c ∗ woPts m ρ c ∗ outPts c (outAt m ρ c))

/-- A slot that holds something known holds something. -/
theorem slot_any (j : Fin 4) (c : Dev nD) (X : S2x128x4x64.Idx → Elt F .f32) : slotAt j c X ⊢ anySlot j c := by
  unfold slotAt anySlot
  iintro ⟨%f, -, H⟩
  iexists f; iexact H

/-- The keys' buffer in the share kept for loading and the two lent to the copies; and the values' buffer. -/
theorem k_split (c : Dev nD) : kPts m ρ fullShare c ⊣⊢ iprop(kPts m ρ fullShare.left c ∗ srcPts m ρ 0 c ∗ srcPts m ρ 2 c) := by
  unfold srcPts kPts
  refine BiEntails.trans (pointsTo_share (PosShare.mem_left_op_right _)) ?_
  exact sep_congr_right (pointsTo_share (PosShare.mem_left_op_right _))
/-- The values' buffer in the share kept for loading and the two lent to the copies. -/
theorem v_split (c : Dev nD) : vPts m ρ fullShare c ⊣⊢ iprop(vPts m ρ fullShare.left c ∗ srcPts m ρ 1 c ∗ srcPts m ρ 3 c) := by
  unfold srcPts vPts
  refine BiEntails.trans (pointsTo_share (PosShare.mem_left_op_right _)) ?_
  exact sep_congr_right (pointsTo_share (PosShare.mem_left_op_right _))

/-- The body of the kernel, once, at a symbolic device. -/
theorem body (c : Dev nD) {Q : PUnit → sProp 𝕄} :
    iprop(bodyPre m ρ K c ∗ (bodyPost m ρ c -∗ Q ⟨⟩))
      ⊢ run c (cc0_body xM (Memref.isWhole_whole _) wqM (Memref.isWhole_whole _) kM (Memref.isWhole_whole _) vM (Memref.isWhole_whole _)
          woM (Memref.isWhole_whole _) oM (Memref.isWhole_whole _) hM (Memref.isWhole_whole _) cc0_scratch1 cc0_scratch2) Q := by
  rw [cc0_body_eq_skeleton]
  unfold cc0_body_skel bodyPre
  iintro ⟨⟨⟨#Hsg, #Hc0, #Hc1, #Hc2, #Hc3, #HI⟩, Hst, ⟨Ht0, Ht1, Ht2, Ht3⟩, ⟨Hp0, Hp1, Hp2, Hp3⟩, Hat, HO, Hsl,
    Hx, Hwq, Hkk, Hvv, Hwo, %f, Ho⟩, Hk⟩
  ihave Hkk := (k_split m ρ c).1 $$ Hkk
  icases Hkk with ⟨Hkk, Hb0, Hb2⟩
  ihave Hvv := (v_split m ρ c).1 $$ Hvv
  icases Hvv with ⟨Hvv, Hb1, Hb3⟩
  iapply (bind c)
  iapply (part1 m ρ K c)
  isplitl [Hst HO Hsl Ht0 Ht1 Hb0 Hb1]
  · isplitr; · iexact Hsg
    isplitl [Hst]; · iexact Hst
    isplitl [HO]; · iexact HO
    isplitl [Hsl]; · iexact Hsl
    isplitr; · iexact Hc0
    isplitr; · iexact Hc1
    isplitl [Ht0]; · iexact Ht0
    isplitl [Ht1]; · iexact Ht1
    isplitl [Hb0] <;> iassumption
  iintro ⟨HO, Hbar, Hkl, Hkr, Hll, Har⟩
  iapply (bind c)
  iapply (part2 m ρ K c)
  isplitl [Ht2 Ht3 Hb2 Hb3 Hll HO Hkl Hkr Hx Hwq]
  · isplitr; · iexact Hc2
    isplitr; · iexact Hc3
    isplitl [Ht2]; · iexact Ht2
    isplitl [Ht3]; · iexact Ht3
    isplitl [Hb2]; · iexact Hb2
    isplitl [Hb3]; · iexact Hb3
    isplitl [Hll]; · iexact Hll
    isplitl [HO]; · iexact HO
    isplitl [Hkl]; · iexact Hkl
    isplitl [Hkr]; · iexact Hkr
    isplitl [Hx] <;> iassumption
  iintro ⟨HO, Hal, Hz0, Hz1, Hz2, Hz3, Hx, Hwq⟩
  iapply (bind c)
  iapply (part3 m ρ K c (q := fullShare.left))
  isplitl [Hp0 Hp2 HO Hz0 Hz2 Hkk]
  · isplitl [Hp0]; · iexact Hp0
    isplitl [Hp2]; · iexact Hp2
    isplitl [HO]; · iexact HO
    isplitl [Hz0]; · iexact Hz0
    isplitl [Hz2] <;> iassumption
  iintro ⟨HO, Hv0, Hv2, Hs0, Hs2, Hkk⟩
  iapply (bind c)
  iapply (part4 m ρ c)
  isplitl [Hs2]; · iexact Hs2
  iintro Hs2
  iapply (bind c)
  iapply (part5 m ρ c)
  iapply (bind c)
  iapply (part6 m ρ c)
  iapply (bind c)
  iapply (part7 m ρ c)
  iapply (bind c)
  iapply (part8 m ρ K c (p00 m ρ c) (q := fullShare.left))
  isplitl [Hp1 Hp3 Hat Har Hal HO Hz1 Hz3 Hvv Hwo]
  · isplitl [Hp1]; · iexact Hp1
    isplitl [Hp3]; · iexact Hp3
    isplitr; · iexact HI
    isplitl [Hat]; · iexact Hat
    isplitl [Har]; · iexact Har
    isplitl [Hal]; · iexact Hal
    isplitl [HO]; · iexact HO
    isplitl [Hz1]; · iexact Hz1
    isplitl [Hz3]; · iexact Hz3
    isplitl [Hvv] <;> iassumption
  iintro ⟨HO, Hv1, Hv3, Hy, Hs1, Hs3, ⟨Hb0, Hb1, Hb2, Hb3⟩, Hvv, Hwo⟩
  iapply (bind c)
  iapply (part9 c f)
  isplitl [Ho]; · iexact Ho
  iintro Ho
  simp only [Prog.lift, Prog.bind_op, Prog.bind_ret, Prog.pure_eq_ret]
  iapply (load_o rO1 c) $$ Ho
  iintro Ho
  iapply (store_o rO1 c) $$ Ho
  iintro Ho
  iapply (ret c)
  iapply Hk
  unfold bodyPost
  isplitl [HO]; · iexact HO
  isplitl [Hbar]; · iexact Hbar
  isplitl [Hy]; · iexact Hy
  isplitl [Hv0 Hv1 Hv2 Hv3]
  · isplitl [Hv0]; · iexact Hv0
    isplitl [Hv1]; · iexact Hv1
    isplitl [Hv2] <;> iassumption
  isplitl [Hs0 Hs1 Hs2 Hs3]
  · isplitl [Hs0]; · iapply (slot_any 0 c); iexact Hs0
    isplitl [Hs1]; · iapply (slot_any 1 c); iexact Hs1
    isplitl [Hs2]; · iapply (slot_any 2 c); iexact Hs2
    iapply (slot_any 3 c); iexact Hs3
  isplitl [Hx]; · iexact Hx
  isplitl [Hwq]; · iexact Hwq
  isplitl [Hkk Hb0 Hb2]
  · iapply (k_split m ρ c).2
    isplitl [Hkk]; · iexact Hkk
    isplitl [Hb0] <;> iassumption
  isplitl [Hvv Hb1 Hb3]
  · iapply (v_split m ρ c).2
    isplitl [Hvv]; · iexact Hvv
    isplitl [Hb1] <;> iassumption
  isplitl [Hwo]; · iexact Hwo
  rw [← out_written m ρ c f]
  iexact Ho

end Cert.Halo
-- ==== Proof.Deal.lean ====
/-
# Dealing out the protocol's ghost state

Before the kernels run, every device's nine cells are opened at round 0 and the tokens of all payments are minted. The tokens are
then dealt to the devices that pay: a barrier's to the two neighbours, a receiver's to the device that copies to it. Each device is
also credited with exactly what the others owe its cells.
-/
module

public import proofs.«01_k».proof.Proof.Body

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UW ℕ

variable (m : (ℓ : Loc nD τ sig) → Buf (Elt F) ℓ) (ρ : Dev nD → PrngReg)
variable (K : Dev nD × Fin 9 → ℕ)

/-! ## Cells and tokens -/

/-- A device's nine semaphores: the barrier, the senders', the receivers'; and its own eight, which the launch zeroes. -/
abbrev csem : Fin 9 → SemLoc sig := fun k => match k with
  | 0 => .reg barS | 1 => .dma (sS 0) | 2 => .dma (sS 1) | 3 => .dma (sS 2) | 4 => .dma (sS 3)
  | 5 => .dma (vS 0) | 6 => .dma (vS 1) | 7 => .dma (vS 2) | 8 => .dma (vS 3)
/-- The eight DMA semaphores. -/
abbrev osem : Fin 8 → SemLoc sig := fun k => csem k.succ
/-- Semaphore `k` of a device, as a cell. -/
abbrev kcell (ck : Dev nD × Fin 9) : GSem nD τ sig := ((ck.1 : Thread nD τ), csem ck.2)

/-- The eight DMA semaphores are those that the launch zeroes. -/
theorem ownSemFacts : Pipeline.OwnSemFacts cfg0.spec osem := by decide

/-- The nine semaphores are different. -/
theorem csem_injective : Function.Injective csem := by decide
/-- So are the cells, over all devices. -/
theorem kcell_injective : Function.Injective (kcell : Dev nD × Fin 9 → GSem nD τ sig) := fun a b h =>
  Prod.ext (congrArg (fun g : GSem nD τ sig => g.1.1) h) (csem_injective (congrArg Prod.snd h))
/-- All cells. -/
def allCells : Finset (GSem nD τ sig) := Finset.univ.map ⟨kcell, kcell_injective⟩

/-- A device's payments by name: `some k` the one on cell `k`, `none` the second one on the barrier. -/
abbrev tokOf (cj : Dev nD × Option (Fin 9)) : GSem nD τ sig × ℕ × Bool := match cj.2 with
  | none => (barC cj.1, 0, true)
  | some k => (kcell (cj.1, k), 0, false)
/-- Different payments have different names. -/
theorem tokOf_injective : Function.Injective (tokOf : Dev nD × Option (Fin 9) → GSem nD τ sig × ℕ × Bool) := by
  rintro ⟨c, _ | k⟩ ⟨c', _ | k'⟩ h
  · have h1 : c = c' := congrArg (fun x : GSem nD τ sig × ℕ × Bool => x.1.1.1) h
    rw [h1]
  · exact absurd (congrArg (fun x : GSem nD τ sig × ℕ × Bool => x.2.2) h) (fun h => Bool.noConfusion h)
  · exact absurd (congrArg (fun x : GSem nD τ sig × ℕ × Bool => x.2.2) h) (fun h => Bool.noConfusion h)
  · have h1 : kcell (c, k) = kcell (c', k') := congrArg Prod.fst h
    have h2 := kcell_injective h1
    rw [(Prod.mk.inj h2).1, (Prod.mk.inj h2).2]
/-- All payments. -/
def allToks : Finset (GSem nD τ sig × ℕ × Bool) := Finset.univ.map ⟨tokOf, tokOf_injective⟩

/-- The ghost state the launch starts from. -/
def u₀ : UW := (initOf (Pipeline.cells cfgs cellOf_inj) (Pipeline.launchToks cfgs cellOf_inj), initOf allCells allToks)

/-- The tokens of the payments on a device's own cells. -/
def minted (c : Dev nD) : sProp 𝕄 :=
  iprop(dutyTok ER (barC c) 0 true ∗ bigSep Finset.univ fun k : Fin 9 => dutyTok ER (kcell (c, k)) 0 false)
/-- A device's positions, and that each of its cells has reached round 0. -/
def places (c : Dev nD) : sProp 𝕄 :=
  bigSep Finset.univ fun k : Fin 9 => iprop(atPos ER (kcell (c, k)) 0 ∅ 0 ∗ reached ER (kcell (c, k)) 0)
/-- A device's part of the ghost state at the launch. -/
def G (c : Dev nD) : sProp 𝕄 :=
  iprop((bigSep Finset.univ fun k : Fin 9 => roundState ER (Rd m ρ) (kcell (c, k)) 0) ∗ places c ∗ minted c)

omit [FloatOps F] [Named F] in
/-- A separating conjunction over nine, written out. -/
theorem bigSep_nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
omit [FloatOps F] [Named F] in
/-- One over four. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] [Named F] in
/-- One over the payments of a device: the second one on the barrier apart. -/
theorem bigSep_opt (Φ : Option (Fin 9) → sProp 𝕄) :
    bigSep Finset.univ Φ = iprop(Φ none ∗ bigSep Finset.univ fun k : Fin 9 => Φ (some k)) := by
  rw [bigSep_nine]
  exact bigSep_univ_eq_bigSepL [none, some 0, some 1, some 2, some 3, some 4, some 5, some 6, some 7, some 8] (by decide) (by decide) Φ

/-- The launch's ghost state is every device's cells at round 0, its positions, and the tokens on its cells. -/
theorem fund_all : BI.own (ER (initOf allCells allToks)) ⊢ (|==> bigSep Finset.univ (G m ρ) : sProp 𝕄) := by
  have hX (Φ : GSem nD τ sig → sProp 𝕄) :
      bigSep allCells Φ = bigSep Finset.univ fun c : Dev nD => bigSep Finset.univ fun k : Fin 9 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    exact bigSep_congr fun c _ => by unfold minted; rw [bigSep_opt]; rfl
  iintro H
  imod (Rounds.fund ER (Rd m ρ) allCells allToks) $$ H with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hat Hr]
  · isplitl [Hat] <;> iassumption
  iexact Htok

/-! ## The semaphores at the launch -/

/-- The semaphores that the launch zeroes, written out. -/
theorem own_eq (c : Dev nD) : (Pipeline.ownSems0 (Ix := Unit) (Name := ℕ) (U := UW) (Lvl := ℕ) (Val := Elt F) (τ := τ) osem c : sProp 𝕄)
    = iprop(semVal (sC 0 c) 0 ∗ semVal (sC 1 c) 0 ∗ semVal (sC 2 c) 0 ∗ semVal (sC 3 c) 0
        ∗ semVal (vC 0 c) 0 ∗ semVal (vC 1 c) 0 ∗ semVal (vC 2 c) 0 ∗ semVal (vC 3 c) 0) := by
  rw [Pipeline.ownSems0_eq_of_list c osem [0, 1, 2, 3, 4, 5, 6, 7] (by decide) (by decide)]; rfl
/-- The barrier is the one semaphore beside them. -/
theorem bar_eq (c : Dev nD) : (unscopedSems0 c : sProp 𝕄) = semVal (barC c) 0 := by
  unfold unscopedSems0; rw [bigSep_eq_bigSepL_of_eq [SemLoc.reg barS] (by decide) (by decide)]; rfl

/-- Some name for each cell of a device. -/
def named (c : Dev nD) : sProp 𝕄 :=
  bigSep Finset.univ fun k => iprop(∃ κ : ℕ, cellInv ER (Rd m ρ) κ (kcell (c, k)))

/-- One device's cells become invariants. -/
theorem open_cells (c : Dev nD) :
    iprop(Pipeline.ownSems0 (Ix := Unit) (Name := ℕ) (U := UW) (Lvl := ℕ) (Val := Elt F) (τ := τ) osem c ∗ unscopedSems0 c ∗ G m ρ c)
      ⊢ |={Set.univ}=> iprop(named m ρ c ∗ places c ∗ minted c) := by
  have alloc : iprop((bigSep Finset.univ fun k : Fin 9 => semVal (kcell (c, k)) 0)
      ∗ bigSep Finset.univ fun k : Fin 9 => roundState ER (Rd m ρ) (kcell (c, k)) 0) ⊢ (|={Set.univ}=> named m ρ c : sProp 𝕄) := by
    rw [← bigSep_sep']
    exact (bigSep_mono fun k _ => (Rounds.body_intro ER (Rd m ρ) (kcell (c, k))).trans inv_alloc).trans (bigSep_fupd _ _)
  unfold G
  rw [own_eq, bar_eq]
  iintro ⟨Ho, Hb, Hst, Hpl, Hmi⟩
  imod alloc $$ [Ho Hb Hst] with HI
  · isplitl [Ho Hb]
    · rw [bigSep_nine]
      isplitl [Hb]; · iexact Hb
      iexact Ho
    iexact Hst
  imodintro
  isplitl [HI]; · iexact HI
  isplitl [Hpl] <;> iassumption

/-! ## The deal -/

/-- What is known of all cells: their invariants, and that they have reached round 0. -/
def records : sProp 𝕄 :=
  iprop((bigSep Finset.univ fun ck : Dev nD × Fin 9 => cellInv ER (Rd m ρ) (K ck) (kcell ck))
    ∗ bigSep Finset.univ fun ck : Dev nD × Fin 9 => reached ER (kcell ck) 0)
instance records_persistent : BI.Persistent (records m ρ K) := by unfold records; infer_instance

/-- The records give each cell's invariant. -/
theorem inv_at (ck : Dev nD × Fin 9) : records m ρ K ⊢ cellInv ER (Rd m ρ) (K ck) (kcell ck) := by
  have h : (bigSep Finset.univ fun ck : Dev nD × Fin 9 => cellInv ER (Rd m ρ) (K ck) (kcell ck)) ⊢ (cellInv ER (Rd m ρ) (K ck) (kcell ck) : sProp 𝕄) :=
    bigSep_elim (Finset.mem_univ ck)
  unfold records; iintro ⟨H, -⟩; iapply h $$ H
/-- They give that each cell has reached round 0. -/
theorem reached_at (ck : Dev nD × Fin 9) : records m ρ K ⊢ reached ER (kcell ck) 0 := by
  have h : (bigSep Finset.univ fun ck : Dev nD × Fin 9 => reached ER (kcell ck) 0) ⊢ (reached ER (kcell ck) 0 : sProp 𝕄) :=
    bigSep_elim (Finset.mem_univ ck)
  unfold records; iintro ⟨-, H⟩; iapply h $$ H

/-- A device's positions. -/
def positions (c : Dev nD) : sProp 𝕄 := bigSep Finset.univ fun k : Fin 9 => atPos ER (kcell (c, k)) 0 ∅ 0
/-- The tokens of the payments a device makes. -/
def pays (c : Dev nD) : sProp 𝕄 :=
  iprop(dutyTok ER (barC (lft c)) 0 true ∗ dutyTok ER (barC (rgt c)) 0 false ∗ toks 0 c ∗ toks 1 c ∗ toks 2 c ∗ toks 3 c)
/-- A device's share of the protocol: the records, its positions and its payments. -/
def G' (c : Dev nD) : sProp 𝕄 := iprop(∃ K, records m ρ K ∗ positions c ∗ pays c)

/-- The tokens go to the devices that pay. -/
theorem deal : (bigSep Finset.univ fun c : Dev nD => (minted c : sProp 𝕄)) ⊢ bigSep Finset.univ fun c : Dev nD => pays c := by
  unfold minted pays Cert.Halo.toks
  simp only [bigSep_nine, bigSep_sep']
  rw [bigSep_univ_equiv ring.symm (fun c : Dev nD => (dutyTok ER (barC c) 0 true : sProp 𝕄)),
    bigSep_univ_equiv ring (fun c : Dev nD => (dutyTok ER (kcell (c, 0)) 0 false : sProp 𝕄)),
    bigSep_univ_equiv (tgtE 0) (fun c : Dev nD => (dutyTok ER (kcell (c, 5)) 0 false : sProp 𝕄)),
    bigSep_univ_equiv (tgtE 1) (fun c : Dev nD => (dutyTok ER (kcell (c, 6)) 0 false : sProp 𝕄)),
    bigSep_univ_equiv (tgtE 2) (fun c : Dev nD => (dutyTok ER (kcell (c, 7)) 0 false : sProp 𝕄)),
    bigSep_univ_equiv (tgtE 3) (fun c : Dev nD => (dutyTok ER (kcell (c, 8)) 0 false : sProp 𝕄))]
  iintro ⟨Ht, Hb, H1, H2, H3, H4, H5, H6, H7, H8⟩
  isplitl [Ht]; · iexact Ht
  isplitl [Hb]; · iexact Hb
  isplitl [H1 H5]
  · isplitl [H1]; · iexact H1
    iexact H5
  isplitl [H2 H6]
  · isplitl [H2]; · iexact H2
    iexact H6
  isplitl [H3 H7]
  · isplitl [H3]; · iexact H3
    iexact H7
  isplitl [H4]; · iexact H4
  iexact H8

/-- What everybody knows is dealt to everybody. -/
theorem to_all {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- From every device's opened cells to every device's share of the protocol. -/
theorem regroup : (bigSep Finset.univ fun c : Dev nD => iprop(named m ρ c ∗ places c ∗ minted c) : sProp 𝕄) ⊢ bigSep Finset.univ (G' m ρ) := by
  unfold named places
  simp only [bigSep_sep']
  rw [← bigSep_univ_prod (fun ck : Dev nD × Fin 9 => iprop(∃ κ : ℕ, cellInv ER (Rd m ρ) κ (kcell ck))),
    ← bigSep_univ_prod (fun ck : Dev nD × Fin 9 => (reached ER (kcell ck) 0 : sProp 𝕄))]
  iintro ⟨HI, ⟨Hat, #HR⟩, Hmi⟩
  ihave HK := (BI.bigSep_exists_pi Finset.univ (fun (ck : Dev nD × Fin 9) (κ : ℕ) => (cellInv ER (Rd m ρ) κ (kcell ck) : sProp 𝕄))) $$ HI
  icases HK with ⟨%K, #HI⟩
  ihave Hpy := (deal (F := F)) $$ Hmi
  iapply (to_all (R := records m ρ K) (Φ := fun c => iprop(positions c ∗ pays c)) fun c => by
    unfold G'
    iintro ⟨#HR, Hp, Ht⟩
    iexists K
    isplitr; · iexact HR
    isplitl [Hp] <;> iassumption)
  isplitr
  · unfold records
    isplitr; · iexact HI
    iexact HR
  · rw [bigSep_sep']
    isplitl [Hat]; · unfold positions; iexact Hat
    iexact Hpy

/-- All devices' semaphores and ghost state at once become every device's share of the protocol. -/
theorem glob : (bigSep Finset.univ fun c => iprop(Pipeline.ownSems0 (Ix := Unit) (Name := ℕ) (U := UW) (Lvl := ℕ) (Val := Elt F) (τ := τ) osem c
      ∗ unscopedSems0 c ∗ G m ρ c) : sProp 𝕄) ⊢ |={Set.univ}=> bigSep Finset.univ (G' m ρ) :=
  ((bigSep_mono fun c _ => open_cells m ρ c).trans (bigSep_fupd _ _)).trans (BI.fupd_mono (regroup m ρ))

/-! ## The credit at the launch -/

/-- The same semaphore of two devices is one cell exactly when the devices are one. -/
theorem cell_iff {a b : Dev nD} {sm : SemLoc sig} : ((((a : Thread nD τ), sm) : GSem nD τ sig) = ((b : Thread nD τ), sm)) ↔ a = b :=
  ⟨fun h => congrArg (fun g : GSem nD τ sig => g.1.1) h, fun h => h ▸ rfl⟩

/-- What copy `i` of device `d` owes slot `j` of device `c`. -/
theorem owe_v (i j : Fin 4) (d c : Dev nD) :
    owe i d (vC j c) () = if i = j ∧ d = org j c then (if takes j c then N else 0) else 0 := by
  unfold owe
  rw [tallyAt_apply]
  by_cases hij : i = j
  · subst hij
    by_cases hd : d = org i c
    · subst hd
      rw [← takes_tgt, tgt_org, if_pos ⟨rfl, rfl⟩]
      exact (if_pos ⟨rfl, rfl⟩).symm
    · rw [if_neg (c := i = i ∧ d = org i c) (fun h => hd h.2), if_neg]
      rintro ⟨h, -⟩
      exact hd (by rw [cell_iff.mp h, org_tgt])
  · rw [if_neg (c := i = j ∧ d = org j c) (fun h => hij h.1), if_neg]
    rintro ⟨h, -⟩
    have inj : ∀ i j : Fin 4, vS j = vS i → i = j := by decide
    exact hij (inj i j (SemLoc.dma.inj (congrArg (fun g : GSem nD τ sig => g.2) h)))
/-- A copy owes no barrier anything. -/
theorem owe_bar (i : Fin 4) (d c : Dev nD) : owe i d (barC c) () = 0 := by
  unfold owe
  rw [tallyAt_apply, if_neg]
  rintro ⟨h, -⟩
  exact absurd (congrArg (fun g : GSem nD τ sig => g.2) h) (fun h => by cases h)
/-- A debt to one barrier, read at a barrier. -/
theorem tally_bar (n : ℕ) (d c : Dev nD) : tallyAt (nD := nD) (τ := τ) (sig := sig) (barC d) () n (barC c) () = if c = d then n else 0 := by
  rw [tallyAt_apply]
  by_cases h : c = d
  · subst h; rw [if_pos ⟨rfl, rfl⟩, if_pos rfl]
  · rw [if_neg (fun h' => h (cell_iff.mp h'.1)), if_neg h]
/-- A debt to a barrier, read at a slot, is nothing. -/
theorem tally_v (n : ℕ) (j : Fin 4) (d c : Dev nD) : tallyAt (nD := nD) (τ := τ) (sig := sig) (barC d) () n (vC j c) () = 0 := by
  rw [tallyAt_apply, if_neg]
  rintro ⟨h, -⟩
  exact absurd (congrArg (fun g : GSem nD τ sig => g.2) h) (fun h => by cases h)

/-- What device `d` owes the barrier, and slot `j`, of device `c`. -/
theorem owed_bar (d c : Dev nD) :
    O₀ d (barC c) () = (if d = lft c then (if hasL c then 1 else 0) else 0) + (if d = rgt c then (if hasR c then 1 else 0) else 0) := by
  unfold O₀ OR OX O1 O2 O3
  simp only [Pi.add_apply, Finsupp.add_apply, owe_bar, tally_bar, Pi.zero_apply, Finsupp.zero_apply, Nat.zero_add]
  congr 1
  · by_cases h : d = lft c
    · subst h; rw [rgt_lft, if_pos rfl, if_pos rfl, hasR_lft]
    · rw [if_neg h, if_neg (fun h' => h (by rw [h', lft_rgt]))]
  · by_cases h : d = rgt c
    · subst h; rw [lft_rgt, if_pos rfl, if_pos rfl, hasL_rgt]
    · rw [if_neg h, if_neg (fun h' => h (by rw [h', rgt_lft]))]
/-- What device `d` owes slot `j` of device `c`. -/
theorem owed_v (j : Fin 4) (d c : Dev nD) : O₀ d (vC j c) () = if d = org j c then (if takes j c then N else 0) else 0 := by
  unfold O₀ OR OX O1 O2 O3
  simp only [Pi.add_apply, Finsupp.add_apply, owe_v, tally_v, Pi.zero_apply, Finsupp.zero_apply, Nat.zero_add, Nat.add_zero]
  fin_cases j <;> simp

/-- A device is credited with what the others owe it. -/
theorem launch_bar (c : Dev nD) :
    tallyOn (barC c) (launchCredit (Pipeline.owing O₀) 0 (barC c)) = (tallyAt (barC c) () (barN c) : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lft c) fun _ => _, Finset.sum_ite_eq' Finset.univ (rgt c) fun _ => _, if_pos (Finset.mem_univ _),
    if_pos (Finset.mem_univ _)]
/-- The launch credits slot `j` of a device with its copy, if there is one. -/
theorem launch_v (j : Fin 4) (c : Dev nD) : tallyOn (vC j c) (launchCredit (Pipeline.owing O₀) 0 (vC j c))
    = (tallyAt (vC j c) () (if takes j c then N else 0) : CellTallies nD τ sig Unit) := by
  unfold tallyAt; refine congrArg _ (Finsupp.ext fun u => ?_); cases u
  rw [Pipeline.launchCredit_owing, Finsupp.single_eq_same, Finset.sum_congr rfl fun d _ => owed_v j d c,
    Finset.sum_ite_eq' Finset.univ (org j c) fun _ => _, if_pos (Finset.mem_univ _)]

/-- A device's credits. -/
def credits (c : Dev nD) : sProp 𝕄 :=
  iprop(cred (tallyAt (barC c) () (barN c)) ∗ cred (tallyAt (vC 0 c) () (if takes 0 c then N else 0)) ∗ cred (tallyAt (vC 1 c) () (if takes 1 c then N else 0))
    ∗ cred (tallyAt (vC 2 c) () (if takes 2 c then N else 0)) ∗ cred (tallyAt (vC 3 c) () (if takes 3 c then N else 0)))
/-- The launch's credit gives a device its credits. -/
theorem creds (c : Dev nD) : (Pipeline.launchCred O₀ c : sProp 𝕄) ⊢ credits c := by
  unfold Pipeline.launchCred credits
  rw [← launch_bar, ← launch_v, ← launch_v, ← launch_v, ← launch_v]
  refine (bigSep_subset (Finset.subset_univ {SemLoc.reg barS, .dma (vS 0), .dma (vS 1), .dma (vS 2), .dma (vS 3)})).trans ?_
  rw [bigSep_eq_bigSepL_of_eq [SemLoc.reg barS, .dma (vS 0), .dma (vS 1), .dma (vS 2), .dma (vS 3)] (by decide) (by decide)]
  exact Entails.refl _

end Cert.Halo
-- ==== Proof.Run.lean ====
/-
# The run

The kernel launched on all devices: from any memory with every semaphore at zero, every fair execution ends with each device's result
array at the computed contents, the arguments as they were, and every semaphore at zero.
-/
module

public import proofs.«01_k».proof.Proof.Deal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Ring.FamCut
public import Idealize.ShloMosaic.Lib.ReshapeSlab

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UW ℕ

variable (m : (ℓ : Loc nD τ sig) → Buf (Elt F) ℓ) (ρ : Dev nD → PrngReg)

/-! ## The halo buffer in slots -/

/-- Slot `j`'s elements. -/
abbrev slotI (j : Fin 4) : Finset (Idx (((0 : Dev nD) : Thread nD τ).loc cc0_scratch0)) := (slotM j).view.set

omit [FloatOps F] [Named F] in
/-- Two slots differ in one of the first two coordinates. -/
theorem slots_apart (i j : Fin 4) (h : i ≠ j) : Disjoint (slotI i) (slotI j) := by
  unfold slotI
  rw [Memref.set_view_squeeze, Memref.set_view_squeeze]
  have key : ∃ a : Fin 6, off i a + S1x1x2x128x4x64.size a ≤ off j a ∨ off j a + S1x1x2x128x4x64.size a ≤ off i a := by
    revert i j; decide
  obtain ⟨a, ha⟩ := key
  exact View.disjoint_slice_of_sep hM.view (slotR i) (slotR j) a rfl rfl ha

/-- The halo buffer outside the slots. -/
def haloRest (c : Dev nD) : sProp 𝕄 :=
  iprop(∃ f : Buf (Elt F) ((c : Thread nD τ).loc cc0_scratch0), ((c : Thread nD τ).loc cc0_scratch0) ↦[Ring.restOf slotI]{fullShare} f)

/-- A device's four slots. -/
abbrev slots (c : Dev nD) : sProp 𝕄 := iprop(anySlot 0 c ∗ anySlot 1 c ∗ anySlot 2 c ∗ anySlot 3 c)

omit [FloatOps F] [Named F] in
/-- The halo buffer is its slots and the rest. -/
theorem halo_cut (c : Dev nD) :
    (iprop(∃ f : Buf (Elt F) ((c : Thread nD τ).loc cc0_scratch0), ((c : Thread nD τ).loc cc0_scratch0) ↦{fullShare} f) : sProp 𝕄)
      ⊢ iprop(slots c ∗ haloRest c) := by
  refine (Ring.fam_split_ex (ℓ := (c : Thread nD τ).loc cc0_scratch0) slotI slots_apart).trans ?_
  rw [bigSep_four]
  exact Entails.refl _
omit [FloatOps F] [Named F] in
/-- The slots and the rest are the halo buffer. -/
theorem halo_join (c : Dev nD) :
    (iprop(slots c ∗ haloRest c) : sProp 𝕄)
      ⊢ iprop(∃ f : Buf (Elt F) ((c : Thread nD τ).loc cc0_scratch0), ((c : Thread nD τ).loc cc0_scratch0) ↦{fullShare} f) := by
  have h (f₀ : Buf (Elt F) ((c : Thread nD τ).loc cc0_scratch0)) :=
    Ring.fam_join (Ix := Unit) (Name := ℕ) (U := UW) (Lvl := ℕ) (ℓ := (c : Thread nD τ).loc cc0_scratch0) slotI slots_apart (q := fullShare) f₀
  simp only [bigSep_four] at h
  unfold haloRest
  iintro ⟨Hs, ⟨%f, Hr⟩⟩
  iapply (h f)
  isplitl [Hs]; · iexact Hs
  iexists f; iexact Hr

/-! ## What each stage of the pipeline holds -/

/-- What a device's body starts with beside its windows. -/
def start (c : Dev nD) : sProp 𝕄 := iprop(G' m ρ c ∗ credits c ∗ levAts L lv)
/-- What a device holds before the body, beside its windows. -/
def Φ₀ (c : Dev nD) : sProp 𝕄 := iprop(start m ρ c ∗ slots c ∗ haloRest c)
/-- A device's semaphores at rest. -/
def quiet (c : Dev nD) : sProp 𝕄 :=
  iprop(semVal (barC c) 0 ∗ (semVal (sC 0 c) 0 ∗ semVal (sC 1 c) 0 ∗ semVal (sC 2 c) 0 ∗ semVal (sC 3 c) 0)
    ∗ (semVal (vC 0 c) 0 ∗ semVal (vC 1 c) 0 ∗ semVal (vC 2 c) 0 ∗ semVal (vC 3 c) 0))
/-- And after it. -/
def Φ₁ (m : (ℓ : Loc nD τ sig) → Buf (Elt F) ℓ) (ρ : Dev nD → PrngReg) (c : Dev nD) : sProp 𝕄 := iprop(quiet c ∗ slots c ∗ haloRest c)

/-- What the pipeline is told of each device. -/
def dats (_ : Fin 1) (c : Dev nD) : Dat τ (Elt F) Unit ℕ UW ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => kstg m ρ c
    | ⟨3, _⟩ => vstg m ρ c
    | ⟨4, _⟩ => wostg m ρ c
    | ⟨5, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] [Named F] in
/-- Owning a whole staging buffer, as the body reads it. -/
theorem owns_whole_eq (c : Dev nD) (b : Ref sig .tc) (X : b.ty.Contents (Elt F)) :
    (owns (Ix := Unit) (Name := ℕ) (U := UW) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer that holds `X`. -/
def holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the pipeline hands the body, and what it takes back. -/
def handed (c : Dev nD) : sProp 𝕄 :=
  iprop(Φ₀ m ρ c ∗ (dats m ρ 0 c).owesAt () t0_0.castSucc
    ∗ (∃ d, holds c cc0_stg0_0 ((dats m ρ 0 c).before (0 : Fin 6) t0_0 d))
    ∗ (∃ d, holds c cc0_stg1_0 ((dats m ρ 0 c).before (1 : Fin 6) t0_0 d))
    ∗ (∃ d, holds c cc0_stg2_0 ((dats m ρ 0 c).before (2 : Fin 6) t0_0 d))
    ∗ (∃ d, holds c cc0_stg3_0 ((dats m ρ 0 c).before (3 : Fin 6) t0_0 d))
    ∗ (∃ d, holds c cc0_stg4_0 ((dats m ρ 0 c).before (4 : Fin 6) t0_0 d))
    ∗ (∃ d, holds c cc0_stg5_0 ((dats m ρ 0 c).before (5 : Fin 6) t0_0 d)))
/-- What the pipeline takes back. -/
def taken (c : Dev nD) : sProp 𝕄 :=
  iprop(Φ₁ m ρ c ∗ (dats m ρ 0 c).owesAt () t0_0.succ
    ∗ holds c cc0_stg0_0 (xstg m ρ c) ∗ holds c cc0_stg1_0 (wqstg m ρ c) ∗ holds c cc0_stg2_0 (kstg m ρ c)
    ∗ holds c cc0_stg3_0 (vstg m ρ c) ∗ holds c cc0_stg4_0 (wostg m ρ c) ∗ holds c cc0_stg5_0 (outAt m ρ c))

/-- The body finds the activations. -/
theorem before_x (c : Dev nD) (d) : (dats m ρ 0 c).before (0 : Fin 6) t0_0 d = xstg m ρ c := by
  unfold Dat.before; rw [if_pos (fetch0_0 t0_0)]; rfl
/-- The query weights. -/
theorem before_wq (c : Dev nD) (d) : (dats m ρ 0 c).before (1 : Fin 6) t0_0 d = wqstg m ρ c := by
  unfold Dat.before; rw [if_pos (fetch0_1 t0_0)]; rfl
/-- The keys. -/
theorem before_k (c : Dev nD) (d) : (dats m ρ 0 c).before (2 : Fin 6) t0_0 d = kstg m ρ c := by
  unfold Dat.before; rw [if_pos (fetch0_2 t0_0)]; rfl
/-- The values. -/
theorem before_v (c : Dev nD) (d) : (dats m ρ 0 c).before (3 : Fin 6) t0_0 d = vstg m ρ c := by
  unfold Dat.before; rw [if_pos (fetch0_3 t0_0)]; rfl
/-- The weights of the projection. -/
theorem before_wo (c : Dev nD) (d) : (dats m ρ 0 c).before (4 : Fin 6) t0_0 d = wostg m ρ c := by
  unfold Dat.before; rw [if_pos (fetch0_4 t0_0)]; rfl

omit [FloatOps F] [Named F] in
/-- A buffer that holds `X`, as a points-to. -/
theorem holds_at (c : Dev nD) (b : Ref sig .tc) (X : b.ty.Contents (Elt F)) :
    holds c b X ⊢ (((c : Thread nD τ).loc b) ↦{fullShare} X : sProp 𝕄) := by
  unfold holds; iintro ⟨%f, %hf, H⟩; subst hf; iexact H
omit [FloatOps F] [Named F] in
/-- And back. -/
theorem at_holds (c : Dev nD) (b : Ref sig .tc) (X : b.ty.Contents (Elt F)) :
    (((c : Thread nD τ).loc b) ↦{fullShare} X : sProp 𝕄) ⊢ holds c b X := by
  unfold holds; iintro H; iexists X; isplitr; · ipureintro; rfl
  iexact H

variable (K : Dev nD × Fin 9 → ℕ)

/-- What a device knows of its neighbours' and its own barriers. -/
theorem sigs_of (c : Dev nD) : iprop(records m ρ K ∗ levAts L lv) ⊢ sigs m ρ K c := by
  unfold sigs
  iintro ⟨#H, #Hl⟩
  isplitr; · iapply (inv_at m ρ K (lft c, 0)) $$ H
  isplitr; · iapply (reached_at m ρ K (lft c, 0)) $$ H
  isplitr; · iapply (inv_at m ρ K (rgt c, 0)) $$ H
  isplitr; · iapply (reached_at m ρ K (rgt c, 0)) $$ H
  isplitr; · iapply (inv_at m ρ K (c, 0)) $$ H
  iexact Hl
/-- What it knows of copy `j`'s cells, its own sender's and its own receiver's. -/
theorem chan_of (j : Fin 4) (c : Dev nD) : records m ρ K ⊢ chan m ρ K j c := by
  have h1 : csem (sI j) = .dma (sS j) := by revert j; decide
  have h2 : csem (vI j) = .dma (vS j) := by revert j; decide
  have i1 := inv_at m ρ K (c, sI j)
  have i2 := inv_at m ρ K (tgt j c, vI j)
  have r1 := reached_at m ρ K (c, sI j)
  have r2 := reached_at m ρ K (tgt j c, vI j)
  unfold kcell at i1 i2 r1 r2
  dsimp only at i1 i2 r1 r2
  rw [h1] at i1 r1; rw [h2] at i2 r2
  unfold chan
  iintro #H
  isplitr; · iapply i1 $$ H
  isplitr; · iapply i2 $$ H
  isplitr; · iapply r1 $$ H
  iapply r2 $$ H
/-- The invariant of its own sender's cell. -/
theorem sender_of (j : Fin 4) (c : Dev nD) : records m ρ K ⊢ cellInv ER (Rd m ρ) (K (c, sI j)) (sC j c) := by
  have h1 : csem (sI j) = .dma (sS j) := by revert j; decide
  have i1 := inv_at m ρ K (c, sI j)
  unfold kcell at i1; dsimp only at i1; rw [h1] at i1
  exact i1
/-- The invariant of its own receiver's cell. -/
theorem receiver_of (j : Fin 4) (c : Dev nD) : records m ρ K ⊢ cellInv ER (Rd m ρ) (K (c, vI j)) (vC j c) := by
  have h1 : csem (vI j) = .dma (vS j) := by revert j; decide
  have i1 := inv_at m ρ K (c, vI j)
  unfold kcell at i1; dsimp only at i1; rw [h1] at i1
  exact i1
/-- A receiver still to be waited on. -/
theorem pend_of (j : Fin 4) (c : Dev nD) :
    iprop(records m ρ K ∗ cred (tallyAt (vC j c) () (if takes j c then N else 0)) ∗ atPos ER (vC j c) 0 ∅ 0) ⊢ pend m ρ K j c := by
  unfold pend
  iintro ⟨#H, Hc, Ha⟩
  isplitr; · iapply (receiver_of m ρ K j c) $$ H
  isplitl [Hc] <;> iassumption

/-- From the pipeline's hands to the body's. -/
theorem entry (c : Dev nD) : handed m ρ c ⊢ iprop((∃ K, bodyPre m ρ K c) ∗ haloRest c) := by
  unfold handed Φ₀ start G' credits positions pays
  rw [bigSep_nine]
  iintro ⟨⟨⟨⟨%K, #HR, ⟨Ha0, Ha1, Ha2, Ha3, Ha4, Ha5, Ha6, Ha7, Ha8⟩, ⟨Hbt, Hbf, Ht0, Ht1, Ht2, Ht3⟩⟩, ⟨Hcb, Hc0, Hc1, Hc2, Hc3⟩, #Hlev⟩, Hsl, Hrest⟩, Ho,
    ⟨%d0, Hx⟩, ⟨%d1, Hwq⟩, ⟨%d2, Hk⟩, ⟨%d3, Hv⟩, ⟨%d4, Hwo⟩, ⟨%d5, Hout⟩⟩
  rw [before_x, before_wq, before_k, before_v, before_wo]
  ihave Hx := (holds_at c _ _) $$ Hx
  ihave Hwq := (holds_at c _ _) $$ Hwq
  ihave Hk := (holds_at c _ _) $$ Hk
  ihave Hv := (holds_at c _ _) $$ Hv
  ihave Hwo := (holds_at c _ _) $$ Hwo
  ihave Hout := (holds_at c _ _) $$ Hout
  isplitr [Hrest]
  · iexists K
    unfold bodyPre xPts wqPts kPts vPts woPts outPts
    isplitr
    · isplitr
      · iapply (sigs_of m ρ K c); isplitr; · iexact HR
        iexact Hlev
      isplitr; · iapply (chan_of m ρ K 0 c) $$ HR
      isplitr; · iapply (chan_of m ρ K 1 c) $$ HR
      isplitr; · iapply (chan_of m ρ K 2 c) $$ HR
      isplitr; · iapply (chan_of m ρ K 3 c) $$ HR
      isplitr; · iapply (sender_of m ρ K 0 c) $$ HR
      isplitr; · iapply (sender_of m ρ K 1 c) $$ HR
      isplitr; · iapply (sender_of m ρ K 2 c) $$ HR
      iapply (sender_of m ρ K 3 c) $$ HR
    isplitl [Hbt Hbf Hcb Ha0]
    · unfold sigToks
      isplitl [Hbt]; · iexact Hbt
      isplitl [Hbf]; · iexact Hbf
      isplitl [Hcb]; · iexact Hcb
      iexact Ha0
    isplitl [Ht0 Ht1 Ht2 Ht3]
    · isplitl [Ht0]; · iexact Ht0
      isplitl [Ht1]; · iexact Ht1
      isplitl [Ht2]; · iexact Ht2
      iexact Ht3
    isplitl [Hc0 Hc1 Hc2 Hc3 Ha5 Ha6 Ha7 Ha8]
    · isplitl [Hc0 Ha5]
      · iapply (pend_of m ρ K 0 c); isplitr; · iexact HR
        isplitl [Hc0]; · iexact Hc0
        iexact Ha5
      isplitl [Hc1 Ha6]
      · iapply (pend_of m ρ K 1 c); isplitr; · iexact HR
        isplitl [Hc1]; · iexact Hc1
        iexact Ha6
      isplitl [Hc2 Ha7]
      · iapply (pend_of m ρ K 2 c); isplitr; · iexact HR
        isplitl [Hc2]; · iexact Hc2
        iexact Ha7
      · iapply (pend_of m ρ K 3 c); isplitr; · iexact HR
        isplitl [Hc3]; · iexact Hc3
        iexact Ha8
    isplitl [Ha1 Ha2 Ha3 Ha4]
    · isplitl [Ha1]; · iexact Ha1
      isplitl [Ha2]; · iexact Ha2
      isplitl [Ha3]; · iexact Ha3
      iexact Ha4
    isplitl [Ho]
    · unfold Dat.owesAt Pipeline.owesWithin owesAny
      icases Ho with ⟨%W, -, HO⟩
      iexists W; iexact HO
    isplitl [Hsl]; · iexact Hsl
    isplitl [Hx]; · iexact Hx
    isplitl [Hwq]; · iexact Hwq
    isplitl [Hk]; · iexact Hk
    isplitl [Hv]; · iexact Hv
    isplitl [Hwo]; · iexact Hwo
    iexists _; iexact Hout
  iexact Hrest

/-- From the body's hands back to the pipeline's. -/
theorem exit (c : Dev nD) : iprop(bodyPost m ρ c ∗ haloRest c) ⊢ taken m ρ c := by
  unfold bodyPost taken Φ₁ quiet xPts wqPts kPts vPts woPts outPts
  iintro ⟨⟨Ho, Hb, Hs, Hr, Hsl, Hx, Hwq, Hk, Hv, Hwo, Hout⟩, Hrest⟩
  isplitl [Hb Hs Hr Hsl Hrest]
  · isplitl [Hb Hs Hr]
    · isplitl [Hb]; · iexact Hb
      isplitl [Hs] <;> iassumption
    isplitl [Hsl] <;> iassumption
  isplitl [Ho]
  · unfold Dat.owesAt Pipeline.owesWithin owesAny
    icases Ho with ⟨%W, HO⟩
    iexists W; isplitr; · ipureintro; exact fun _ _ => Or.inl trivial
    iexact HO
  isplitl [Hx]; · iapply (at_holds c cc0_stg0_0 (xstg m ρ c)); iexact Hx
  isplitl [Hwq]; · iapply (at_holds c cc0_stg1_0 (wqstg m ρ c)); iexact Hwq
  isplitl [Hk]; · iapply (at_holds c cc0_stg2_0 (kstg m ρ c)); iexact Hk
  isplitl [Hv]; · iapply (at_holds c cc0_stg3_0 (vstg m ρ c)); iexact Hv
  isplitl [Hwo]; · iapply (at_holds c cc0_stg4_0 (wostg m ρ c)); iexact Hwo
  iapply (at_holds c cc0_stg5_0 (outAt m ρ c)); iexact Hout

omit [FloatOps F] [Named F] in
/-- A separating conjunction over the windows, written out. -/
theorem bigSep_win (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

set_option maxRecDepth 4000 in
/-- The pipeline's contract for the body. -/
theorem body_obligation (c : Dev nD) : BodyObligation (dats (F := F) m ρ 0 c) (defs₀ (F := F)) 𝒱₀ () Set.univ := fun t => by
  rw [fin_N0 t]
  rw [bigSep_win, bigSep_win]
  simp only [owns_whole_eq]
  show handed m ρ c ⊢ run c
    (cc0_body xM (Memref.isWhole_whole _) wqM (Memref.isWhole_whole _) kM (Memref.isWhole_whole _) vM (Memref.isWhole_whole _)
      woM (Memref.isWhole_whole _) oM (Memref.isWhole_whole _) hM (Memref.isWhole_whole _) cc0_scratch1 cc0_scratch2) (fun _ => taken m ρ c)
  iintro H
  ihave H := (entry m ρ c) $$ H
  icases H with ⟨⟨%K, Hpre⟩, Hrest⟩
  iapply (body m ρ K c)
  isplitl [Hpre]; · iexact Hpre
  iintro Hpost
  iapply (exit m ρ c)
  isplitl [Hpost] <;> iassumption

/-! ## The launch's side conditions -/

/-- Every window is held in full. -/
theorem share_eq (c : Dev nD) (w : Fin cfg0.W) : (dats m ρ 0 c).share w = fullShare := by unfold Dat.share; split <;> rfl

/-- The launch gives what the body starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- With the halo buffer cut into its slots. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iapply (halo_cut c) $$ Hr

/-- After the body all semaphores are at zero and the halo buffer is whole. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, own_eq, bar_eq]
  unfold Φ₁ quiet
  iintro ⟨⟨Hb, ⟨H0, H1, H2, H3⟩, Hv⟩, Hh⟩
  isplitl [Hb]; · iexact Hb
  isplitl [H0 H1 H2 H3 Hv]
  · isplitl [H0]; · iexact H0
    isplitl [H1]; · iexact H1
    isplitl [H2]; · iexact H2
    isplitl [H3]; · iexact H3
    iexact Hv
  iapply (halo_join c) $$ Hh

/-- The pipeline's own waits are below every debt. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

/-- What the windows' arrays end with. -/
def finalA (c : Dev nD) (w : Fin cfg0.W) : Buf (Elt F) ((cfg0.win w).arr.view.loc (c : Thread nD τ)) := (dats m ρ 0 c).arrAt w cfg0.N

/-- The windows' arrays hold their final contents on every device. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all semaphores at zero, every fair execution of the program on the 32 devices ends, with the windows' arrays at
    their computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The five arguments hold what they held. -/
theorem final_in (c : Dev nD) : finalA m ρ c (0 : Fin 6) = m ((c : Thread nD τ).loc main_arg0)
    ∧ finalA m ρ c (1 : Fin 6) = m ((c : Thread nD τ).loc main_arg1) ∧ finalA m ρ c (2 : Fin 6) = m ((c : Thread nD τ).loc main_arg2)
    ∧ finalA m ρ c (3 : Fin 6) = m ((c : Thread nD τ).loc main_arg3) ∧ finalA m ρ c (4 : Fin 6) = m ((c : Thread nD τ).loc main_arg4) :=
  ⟨(dats (F := F) m ρ 0 c).arrAt_in (0 : Fin 6) rfl _, (dats (F := F) m ρ 0 c).arrAt_in (1 : Fin 6) rfl _,
    (dats (F := F) m ρ 0 c).arrAt_in (2 : Fin 6) rfl _, (dats (F := F) m ρ 0 c).arrAt_in (3 : Fin 6) rfl _,
    (dats (F := F) m ρ 0 c).arrAt_in (4 : Fin 6) rfl _⟩

end Cert.Halo
-- ==== Proof.Frames.lean ====
/-
# The frames

Every program ends without fault, its arguments as they were and every semaphore at zero. The kernel as printed differs from the kernel
that was proved only in that the mask is written as a float there, so its frame is the same run at the floats' bits.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Halo

open Idealize.ShloMosaic Idealize.SL.Sem
open Idealize.ShloMosaic.TcCoe

section
open Cert.KernelIdeal Cert.KernelIdeal.Gen

variable {F : FTy → Type} [FloatOps F] [Named F]

/-- The run, read at the arguments and the semaphores. -/
theorem run_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨(h.1 c (0 : Fin 6)).trans (final_in m ρ c).1,
      (h.1 c (1 : Fin 6)).trans (final_in m ρ c).2.1, (h.1 c (2 : Fin 6)).trans (final_in m ρ c).2.2.1,
      (h.1 c (3 : Fin 6)).trans (final_in m ρ c).2.2.2.1, (h.1 c (4 : Fin 6)).trans (final_in m ρ c).2.2.2.2⟩, h.2⟩)
    (run_main m ρ)

end

/-- The named kernel at the extended reals. -/
theorem frame_kernelIdeal : Cert.quiescent_KernelIdeal := fun m ρ _ => run_frame m ρ

/-- At the floats' bits a named constant is its float. -/
local instance : Named Bits where
  named _ _ {_} bits := Scalar.ofBits _ bits

set_option maxRecDepth 8000 in
/-- The bodies of the two programs are one. -/
theorem bodies_same : Cert.Kernel.defs₀ (F := Bits) = Cert.KernelIdeal.defs₀ (F := Bits) :=
  congrArg Defs.onTc (funext fun (l : Fin 1) => funext fun a => by
    match l with
    | 0 => rfl)
/-- The kernel and its ideal form have the same functions. -/
theorem defs_same : Cert.Kernel.defs (F := Bits) = Cert.KernelIdeal.defs (F := Bits) :=
  congrArg (Pipeline.defs (Cert.KernelIdeal.pcfgs (F := Bits))) bodies_same

/-- The kernel as printed. -/
theorem frame_kernel : Cert.quiescent_Kernel := fun m ρ _ => by
  rw [show Cert.Kernel.defs (F := Bits) = Cert.KernelIdeal.defs (F := Bits) from defs_same]
  exact run_frame (F := Bits) m ρ

/-- The reference. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The named constant is the one that the kernel's table names. -/
theorem preserves : Cert.preserves_Kernel_KernelIdeal :=
  IdealRules.named_const.statement Cert.KernelIdeal.κ "mask" .f32 0xCE6E6B28#32 ⊥ rfl

end Cert.Halo
-- ==== Proof.Softmax.lean ====
/-
# Softmax over a window

Over the extended reals: a row of scores most of which are −∞ has the softmax average of its finite ones. Nothing here speaks of a program.
-/
module

public import Idealize.ShloMosaic.PureOps.Ideal
public import Mathlib.Data.EReal.Operations
public import Mathlib.Algebra.BigOperators.Fin

@[expose] public section

noncomputable section

namespace Cert.Halo

open Idealize.ShloMosaic
open scoped BigOperators

/-- The greatest of a row of scores. -/
def top {n : ℕ} (s : Fin n → EReal) : EReal := Finset.univ.fold max ⊥ s

/-- The unnormalised weight of an entry. -/
def weight {n : ℕ} (s : Fin n → EReal) (k : Fin n) : EReal := Ideal.exp (s k - top s)

/-- The average of `v` under the softmax weights of `s`. -/
def soft {n : ℕ} (s v : Fin n → EReal) : EReal := ∑ k, Ideal.div (weight s k) (∑ k', weight s k') * v k

/-- The maximum is the supremum. -/
theorem top_eq {n : ℕ} (s : Fin n → EReal) : top s = Finset.univ.sup s := rfl

/-- An exponential is not negative. -/
theorem exp_nonneg (x : EReal) : 0 ≤ Ideal.exp x := by
  induction x using EReal.rec with
  | bot => exact le_refl _
  | top => exact le_top
  | coe r => exact EReal.coe_nonneg.mpr (Real.exp_pos r).le

/-- That of a real number is positive. -/
theorem exp_coe_pos (r : ℝ) : 0 < Ideal.exp (r : EReal) := EReal.coe_pos.mpr (Real.exp_pos r)

/-- A masked entry weighs nothing. -/
theorem weight_bot {n : ℕ} {s : Fin n → EReal} {k : Fin n} (h : s k = ⊥) : weight s k = 0 := by
  unfold weight
  rw [h, EReal.bot_sub]
  rfl

/-- A zero weight stays zero when divided by a total that is not. -/
theorem div_zero_of_ne {y : EReal} (h : y ≠ 0) : Ideal.div 0 y = 0 := by
  unfold Ideal.div
  rw [if_neg h, zero_mul]

/-- The total weight of a row that has a finite score, and no score +∞, is not zero. -/
theorem total_ne {n : ℕ} (s : Fin n → EReal) (htop : ∀ k, s k ≠ ⊤) {j : Fin n} (hj : s j ≠ ⊥) :
    (∑ k, weight s k) ≠ 0 := by
  have hle : s j ≤ top s := by rw [top_eq]; exact Finset.le_sup (Finset.mem_univ j)
  have hlt : top s ≠ ⊤ := by
    rw [top_eq]
    exact ((Finset.sup_lt_iff (bot_lt_top)).mpr fun k _ => lt_top_iff_ne_top.mpr (htop k)).ne
  have hbot : top s ≠ ⊥ := fun h => hj (le_bot_iff.mp (h ▸ hle))
  have hp : 0 < weight s j := by
    unfold weight
    lift s j to ℝ using ⟨htop j, hj⟩ with a
    lift top s to ℝ using ⟨hlt, hbot⟩ with t
    rw [← EReal.coe_sub]
    exact exp_coe_pos _
  exact (lt_of_lt_of_le hp (Finset.single_le_sum (f := weight s) (fun k _ => exp_nonneg _) (Finset.mem_univ j))).ne'

/-- A row of scores that is −∞ off a window averages as the window does, whatever the values off it are. -/
theorem soft_window {n w : ℕ} (e : Fin w → Fin n) (he : Function.Injective e) {s v : Fin n → EReal} {s' v' : Fin w → EReal}
    (hs : ∀ j, s' j = s (e j)) (hv : ∀ j, s' j ≠ ⊥ → v' j = v (e j)) (hout : ∀ k, s k ≠ ⊥ → ∃ j, e j = k)
    (htop : ∀ j, s' j ≠ ⊤) {j₀ : Fin w} (hj : s' j₀ ≠ ⊥) : soft s v = soft s' v' := by
  have ht : top s = top s' := by
    rw [top_eq, top_eq]
    refine le_antisymm (Finset.sup_le fun k _ => ?_) (Finset.sup_le fun j _ => ?_)
    · by_cases hk : s k = ⊥
      · rw [hk]; exact bot_le
      · obtain ⟨j, rfl⟩ := hout k hk
        rw [← hs j]; exact Finset.le_sup (Finset.mem_univ j)
    · rw [hs j]; exact Finset.le_sup (Finset.mem_univ (e j))
  have hw : ∀ j, weight s' j = weight s (e j) := fun j => by unfold weight; rw [ht, hs j]
  have hsum : ∀ f : Fin n → EReal, (∀ k, s k = ⊥ → f k = 0) → (∑ k, f k) = ∑ j, f (e j) := fun f hf =>
    (Fintype.sum_of_injective e he (fun j => f (e j)) f (fun k hk => hf k (by
      by_contra h
      obtain ⟨j, rfl⟩ := hout k h
      exact hk ⟨j, rfl⟩)) fun _ => rfl).symm
  have hS : (∑ k, weight s k) = ∑ j, weight s' j := (hsum _ fun k hk => weight_bot hk).trans (Finset.sum_congr rfl fun j _ => (hw j).symm)
  have h0 := total_ne s' htop hj
  unfold soft
  rw [hS, hsum _ fun k hk => by rw [weight_bot hk, div_zero_of_ne h0, zero_mul]]
  refine Finset.sum_congr rfl fun j _ => ?_
  rw [hw j]
  by_cases hb : s' j = ⊥
  · rw [weight_bot (hs j ▸ hb), div_zero_of_ne h0, zero_mul, zero_mul]
  · rw [hv j hb]

/-- Finite extended reals: neither infinity. -/
def IsReal (x : EReal) : Prop := x ≠ ⊤ ∧ x ≠ ⊥

/-- A real number is real. -/
theorem IsReal.coe (r : ℝ) : IsReal (r : EReal) := ⟨EReal.coe_ne_top r, EReal.coe_ne_bot r⟩

/-- So is a product of reals. -/
theorem IsReal.mul {x y : EReal} (hx : IsReal x) (hy : IsReal y) : IsReal (x * y) := by
  lift x to ℝ using hx
  lift y to ℝ using hy
  rw [← EReal.coe_mul]
  exact IsReal.coe _

/-- A sum of two. -/
theorem IsReal.add {x y : EReal} (hx : IsReal x) (hy : IsReal y) : IsReal (x + y) := by
  lift x to ℝ using hx
  lift y to ℝ using hy
  rw [← EReal.coe_add]
  exact IsReal.coe _

/-- And a sum of any number. -/
theorem IsReal.sum {n : ℕ} {f : Fin n → EReal} (h : ∀ k, IsReal (f k)) : IsReal (∑ k, f k) :=
  Finset.sum_induction f IsReal (fun _ _ => IsReal.add) (IsReal.coe 0) fun k _ => h k

end Cert.Halo

end
-- ==== Proof.Window.lean ====
/-
# The window of a device

A device's 384 keys in reach stand at places of the whole sequence: its left neighbour's block, its own, its right neighbour's, around
the ring. The kernel's mask says of a query row and a key whether their places are at most 128 apart; the wrapped blocks never are.
-/
module

public import proofs.«01_k».proof.Proof.Parts
public import proofs.«01_k».proof.Proof.Softmax
public import Idealize.ShloMosaic.Lib.Pointwise
public import Idealize.ShloMosaic.Lib.Routing.BitFacts

@[expose] public section

set_option maxRecDepth 16384

noncomputable section

namespace Cert.Halo

open Cert.KernelIdeal Cert.KernelIdeal.Gen
open Idealize.ShloMosaic

/-- Two places of the sequence are at most 128 apart. -/
def near (a b : ℕ) : Bool := decide (a ≤ b + 128 ∧ b ≤ a + 128)

/-- A place is near itself. -/
theorem near_self (a : ℕ) : near a a = true := by unfold near; simp

/-- The comparison that both programs make of two places. -/
theorem near_word {a b : ℕ} (ha : a < 4096) (hb : b < 4096) :
    IntOp.cmpi .sle (IntOp.absi (IntOp.subi (BitVec.ofNat 32 a) (BitVec.ofNat 32 b))) 128#32 = BitVec.ofBool (near a b) := by
  have key : IntOp.absi (IntOp.subi (BitVec.ofNat 32 a) (BitVec.ofNat 32 b)) = BitVec.ofNat 32 (if b ≤ a then a - b else b - a) := by
    unfold IntOp.absi IntOp.subi
    by_cases h : b ≤ a
    · have e : BitVec.ofNat 32 a - BitVec.ofNat 32 b = BitVec.ofNat 32 (a - b) := by
        apply BitVec.eq_of_toNat_eq
        simp only [BitVec.toNat_sub, BitVec.toNat_ofNat]
        omega
      rw [e, if_pos h, if_neg]
      rw [BitVec.msb_eq_decide, BitVec.toNat_ofNat, decide_eq_true_eq]
      omega
    · have e : BitVec.ofNat 32 a - BitVec.ofNat 32 b = BitVec.ofNat 32 (2 ^ 32 - (b - a)) := by
        apply BitVec.eq_of_toNat_eq
        simp only [BitVec.toNat_sub, BitVec.toNat_ofNat]
        omega
      rw [e, if_neg h, if_pos]
      · apply BitVec.eq_of_toNat_eq
        simp only [BitVec.toNat_neg, BitVec.toNat_ofNat]
        omega
      · rw [BitVec.msb_eq_decide, BitVec.toNat_ofNat, decide_eq_true_eq]
        omega
  rw [key]
  unfold IntOp.cmpi
  refine congrArg BitVec.ofBool ?_
  show (BitVec.ofNat 32 (if b ≤ a then a - b else b - a)).sle (BitVec.ofNat 32 128) = near a b
  rw [Idealize.ShloMosaic.Routing.sle_ofNat32 (by split <;> omega) (by omega)]
  unfold near
  refine decide_eq_decide.mpr ?_
  split <;> omega

/-- The device whose keys are the `b`-th block of the window: the left neighbour, the device, the right neighbour. -/
def nbr (c b : ℕ) : ℕ := if b = 0 then (c + 31) % 32 else if b = 1 then c else (c + 1) % 32

/-- The place in the sequence of a key of the window. -/
def col (c : ℕ) (j : ℕ) : ℕ := nbr c (j / 128) * 128 + j % 128

/-- A window's column is a place. -/
theorem col_lt {c j : ℕ} (hc : c < 32) : col c j < 4096 := by
  unfold col nbr
  split
  · omega
  · split <;> omega

/-- Different columns are different places. -/
theorem col_inj {c j j' : ℕ} (hc : c < 32) (hj : j < 384) (hj' : j' < 384) (h : col c j = col c j') : j = j' := by
  unfold col nbr at h
  split at h <;> split at h <;> (try split at h) <;> (try split at h) <;> omega

/-- A place at most 128 from one of the device's is in its window. -/
theorem near_col {c i t : ℕ} (hc : c < 32) (hi : i < 128) (ht : t < 4096) (h : near (128 * c + i) t = true) :
    ∃ j, j < 384 ∧ col c j = t := by
  unfold near at h
  rw [decide_eq_true_eq] at h
  by_cases h1 : t < 128 * c
  · refine ⟨t % 128, by omega, ?_⟩
    unfold col nbr
    rw [if_pos (by omega)]
    omega
  · by_cases h2 : t < 128 * c + 128
    · refine ⟨128 + t % 128, by omega, ?_⟩
      unfold col nbr
      rw [if_neg (by omega), if_pos (by omega)]
      omega
    · refine ⟨256 + t % 128, by omega, ?_⟩
      unfold col nbr
      rw [if_neg (by omega), if_neg (by omega)]
      omega

/-- A key of the left block that a row sees exists: its device has a left neighbour. -/
theorem near_left {c i j : ℕ} (hc : c < 32) (hi : i < 128) (hj : j < 128) (h : near (128 * c + i) (col c j) = true) : c ≠ 0 := by
  rintro rfl
  unfold near col nbr at h
  rw [if_pos (by omega), decide_eq_true_eq] at h
  omega

/-- Nor does the last device see a column from its right. -/
theorem near_right {c i j : ℕ} (hc : c < 32) (hi : i < 128) (hj : 256 ≤ j) (hj' : j < 384)
    (h : near (128 * c + i) (col c j) = true) : c ≠ 31 := by
  rintro rfl
  unfold near col nbr at h
  rw [if_neg (by omega), if_neg (by omega), decide_eq_true_eq] at h
  omega

/-! ## The mask's words -/

/-- The block of a key, as the kernel computes it: the quotient rounded down. -/
theorem block_word : ∀ j : Fin 384, Scalar.select
    (IntOp.andi
      (IntOp.cmpi CmpIPredicate.ne
        (IntOp.subi (BitVec.setWidth 32 (IntOp.cmpi CmpIPredicate.sgt (BitVec.ofNat 32 ↑j) 0#32))
          (BitVec.setWidth 32 (IntOp.cmpi CmpIPredicate.slt (BitVec.ofNat 32 ↑j) 0#32)))
        (Scalar.subi (Scalar.extui (Scalar.cmpi CmpIPredicate.sgt 128#32 0#32))
          (Scalar.extui (Scalar.cmpi CmpIPredicate.slt 128#32 0#32))))
      (IntOp.cmpi CmpIPredicate.ne (IntOp.remsi ArithUnit.vector (BitVec.ofNat 32 ↑j) 128#32) 0#32))
    (IntOp.subi (IntOp.divsi ArithUnit.vector (BitVec.ofNat 32 ↑j) 128#32) 1#32)
    (IntOp.divsi ArithUnit.vector (BitVec.ofNat 32 ↑j) 128#32) = BitVec.ofNat 32 (j.val / 128) := by decide +kernel

/-- The device of a block of the window, as the kernel selects it. -/
theorem nbr_word : ∀ (c : Dev nD) (b : Fin 3),
    Scalar.select (IntOp.cmpi CmpIPredicate.eq (BitVec.ofNat 32 b.val) 0#32) (w5 c)
      (Scalar.select (IntOp.cmpi CmpIPredicate.eq (BitVec.ofNat 32 b.val) 1#32) (w2 c) (w7 c)) = BitVec.ofNat 32 (nbr c.val b.val) := by
  decide +kernel

/-- The device's own number, as a word. -/
theorem own_word : ∀ c : Dev nD, w2 c = BitVec.ofNat 32 c.val := by decide +kernel

/-- The mask at a query row and a key of the window: whether their places are near. -/
theorem mask_apply (c : Dev nD) (i : Fin 128) (j : Fin 384) :
    mask c (ix2 i j) = BitVec.ofBool (near (128 * c.val + i.val) (col c.val j.val)) := by
  unfold mask
  pointwise [k0_pay14, k0_pay10, k0_pay11, k0_pay12, k0_pay13]
  have hc : c.val < 32 := c.isLt
  have hj := j.isLt
  have hi := i.isLt
  have hn := nbr_word c ⟨j.val / 128, by omega⟩
  dsimp only at hn
  rw [block_word j, hn, own_word c]
  have e1 : IntOp.addi (Scalar.muli (BitVec.ofNat 32 c.val) 128#32) (BitVec.ofNat 32 i.val) = BitVec.ofNat 32 (128 * c.val + i.val) := by
    apply BitVec.eq_of_toNat_eq
    simp only [IntOp.addi, Scalar.muli, IntOp.muli, BitVec.toNat_add, BitVec.toNat_mul, BitVec.toNat_ofNat]
    omega
  have e2 : IntOp.addi (IntOp.muli (BitVec.ofNat 32 (nbr c.val (j.val / 128))) 128#32)
      (IntOp.subi (BitVec.ofNat 32 j.val) (IntOp.muli (BitVec.ofNat 32 (j.val / 128)) 128#32)) = BitVec.ofNat 32 (col c.val j.val) := by
    have hl := col_lt (j := j.val) hc
    unfold col at hl ⊢
    apply BitVec.eq_of_toNat_eq
    simp only [IntOp.addi, IntOp.subi, IntOp.muli, BitVec.toNat_add, BitVec.toNat_sub, BitVec.toNat_mul, BitVec.toNat_ofNat]
    omega
  rw [e1, e2]
  exact near_word (by omega) (col_lt hc)

end Cert.Halo

end
-- ==== Proof.Heads.lean ====
/-
# The kernel's heads

The kernel repeats one computation for each of its eight heads, cut differently among its parts. It is written here once, as vector
operations, and read at an element: a softmax average of the values in reach.
-/
module

public import proofs.«01_k».proof.Proof.Window

@[expose] public section

set_option maxRecDepth 16384

noncomputable section

namespace Cert.Halo

open Cert.KernelIdeal Cert.KernelIdeal.Gen
open Idealize.ShloMosaic
open scoped BigOperators

/-- A head's masked scores, as the kernel computes them: queries by keys, scaled, −∞ where the mask is off. -/
def scores (msk : IVec S128x384 1) (q : FVec Ideal S128x64 .f32) (k : FVec Ideal S384x64 .f32) : FVec Ideal S128x384 .f32 :=
  select msk (mulf (matmul dot_S128x64_S384x64_S128x384_1_1_0_0_n_n none q k (constant S128x384 .f32 0x00000000#32))
    (broadcast S128x384 (Scalar.ofBits .f32 0x3E000000#32 : Ideal .f32))) (broadcast S128x384 (Named.named κ "mask" 0xCE6E6B28#32 : Ideal .f32))

/-- The exponentials of a head's scores, the row's greatest taken away. -/
def expos (s : FVec Ideal S128x384 .f32) : FVec Ideal S128x384 .f32 :=
  exp (subf s (broadcastTo S128x384 (shapeCast S128x1 (multiReduction .maximumf [1] S128 s 0xFF800000#32 reduces_S128x384_S128 (.inl rfl) rfl)
    shapeCasts_S128_S128x1) broadcasts_S128x1_S128x384))

/-- A head's probabilities. -/
def probs (s : FVec Ideal S128x384 .f32) : FVec Ideal S128x384 .f32 :=
  divf (expos s) (broadcastTo S128x384 (shapeCast S128x1 (multiReduction .add [1] S128 (expos s) 0x00000000#32 reduces_S128x384_S128 (.inl rfl) rfl)
    shapeCasts_S128_S128x1) broadcasts_S128x1_S128x384)

/-- A head's 384 keys, or values, in reach: the head's rows of the three blocks, one under the other. -/
def reach (b h : ℕ) (hs : S2x128x4x64.Slices ![b, 0, h, 0] S1x128x1x64) (l o r : FVec Ideal S2x128x4x64 .f32) : FVec Ideal S384x64 .f32 :=
  concatenate S384x64 0 [⟨S128x64, shapeCast S128x64 (extractStridedSlice S1x128x1x64 ![b, 0, h, 0] l hs) shapeCasts_S1x128x1x64_S128x64⟩,
    ⟨S128x64, shapeCast S128x64 (extractStridedSlice S1x128x1x64 ![b, 0, h, 0] o hs) shapeCasts_S1x128x1x64_S128x64⟩,
    ⟨S128x64, shapeCast S128x64 (extractStridedSlice S1x128x1x64 ![b, 0, h, 0] r hs) shapeCasts_S1x128x1x64_S128x64⟩]
    concatenates_S128x64_S128x64_S128x64_S384x64_d0

/-- A head's queries: 64 columns of the projected ones. -/
def query (o : ℕ) (hs : S128x256.Slices ![0, o] S128x64) (q : FVec Ideal S128x256 .f32) : FVec Ideal S128x64 .f32 :=
  extractStridedSlice S128x64 ![0, o] q hs

/-- A head's result: its probabilities by its values. -/
def context (s : FVec Ideal S128x384 .f32) (v : FVec Ideal S384x64 .f32) : FVec Ideal S128x64 .f32 :=
  matmul dot_S128x384_S384x64_S128x64_1_0_0_1_n_n none (probs s) v (constant S128x64 .f32 0x00000000#32)

/-- A batch's result: the four heads side by side, by the output weights. -/
def project (x0 x1 x2 x3 : FVec Ideal S128x64 .f32) (w : FVec Ideal S256x512 .f32) : FVec Ideal S1x128x512 .f32 :=
  shapeCast S1x128x512 (matmul dot_S128x256_S256x512_S128x512_1_0_0_1_n_n none
    (concatenate S128x256 1 [⟨S128x64, x0⟩, ⟨S128x64, x1⟩, ⟨S128x64, x2⟩, ⟨S128x64, x3⟩] concatenates_S128x64_S128x64_S128x64_S128x64_S128x256_d1)
    w (constant S128x512 .f32 0x00000000#32)) shapeCasts_S128x512_S1x128x512

/-- A choice among three blocks of 128, by comparisons and by division. -/
theorem thirds {β : Type} (A B C : Fin 128 → β) (j : Fin 384) (hC : ¬ j.val < 128 → ¬ j.val - 128 < 128 → j.val - 128 - 128 < 128) :
    (if h0 : j.val < 128 then A ⟨j.val, h0⟩ else if h1 : j.val - 128 < 128 then B ⟨j.val - 128, h1⟩ else C ⟨j.val - 128 - 128, hC h0 h1⟩)
      = (if j.val / 128 = 0 then A else if j.val / 128 = 1 then B else C) ⟨j.val % 128, by omega⟩ := by
  have hj := j.isLt
  by_cases h0 : j.val < 128
  · rw [dif_pos h0, if_pos (by omega)]
    exact congrArg A (Fin.ext (by show j.val = j.val % 128; omega))
  · rw [dif_neg h0, if_neg (by omega)]
    by_cases h1 : j.val - 128 < 128
    · rw [dif_pos h1, if_pos (by omega)]
      exact congrArg B (Fin.ext (by show j.val - 128 = j.val % 128; omega))
    · rw [dif_neg h1, if_neg (by omega)]
      exact congrArg C (Fin.ext (by show j.val - 128 - 128 = j.val % 128; omega))

/-- A choice among four blocks of 64, by comparisons and by division. -/
theorem quarters {β : Type} (A : Fin 4 → Fin 64 → β) (e : Fin 256)
    (hD : ¬ e.val < 64 → ¬ e.val - 64 < 64 → ¬ e.val - 64 - 64 < 64 → e.val - 64 - 64 - 64 < 64) :
    (if h0 : e.val < 64 then A 0 ⟨e.val, h0⟩ else if h1 : e.val - 64 < 64 then A 1 ⟨e.val - 64, h1⟩
      else if h2 : e.val - 64 - 64 < 64 then A 2 ⟨e.val - 64 - 64, h2⟩ else A 3 ⟨e.val - 64 - 64 - 64, hD h0 h1 h2⟩)
      = A ⟨e.val / 64, by omega⟩ ⟨e.val % 64, by omega⟩ := by
  have he := e.isLt
  have pick : ∀ (h : Fin 4) (d : Fin 64), e.val = 64 * h.val + d.val → A h d = A ⟨e.val / 64, by omega⟩ ⟨e.val % 64, by omega⟩ :=
    fun h d hd => congrArg₂ A (Fin.ext (by show h.val = e.val / 64; omega)) (Fin.ext (by show d.val = e.val % 64; omega))
  split_ifs with h0 h1 h2
  · exact pick 0 _ (by show e.val = 64 * 0 + e.val; omega)
  · exact pick 1 _ (by show e.val = 64 * 1 + (e.val - 64); omega)
  · exact pick 2 _ (by show e.val = 64 * 2 + (e.val - 64 - 64); omega)
  · exact pick 3 _ (by show e.val = 64 * 3 + (e.val - 64 - 64 - 64); omega)

/-! ## At an element -/

/-- The kernel's scale, 1/8. -/
abbrev scale : EReal := Ideal.ofBits .f32 0x3E000000#32

/-- The scale is a real number. -/
theorem isReal_scale : IsReal scale := by
  unfold scale
  norm_num [Ideal.ofBits, Ideal.ieee]
  exact IsReal.coe _

/-- The word of −∞. -/
theorem word_bot : Ideal.ofBits .f32 0xFF800000#32 = (⊥ : EReal) := by
  norm_num [Ideal.ofBits, Ideal.ieee]
  rw [if_pos (by decide), if_pos (by decide)]

/-- A score: the product of query and key, scaled, where the mask is on; −∞ elsewhere. -/
theorem scores_apply (msk : IVec S128x384 1) (q : FVec Ideal S128x64 .f32) (k : FVec Ideal S384x64 .f32) (i : Fin 128) (j : Fin 384) :
    scores msk q k (ix2 i j) = if msk (ix2 i j) = 1#1 then (∑ d : Fin 64, q (ix2 i d) * k (ix2 j d)) * scale else ⊥ := by
  unfold scores
  pointwise []
  rw [IdealRules.named_const.ideal_named_scalar κ "mask" _ _ rfl]
  rfl

/-- The exponentials are the weights of the scores, before the division. -/
theorem expos_apply (s : FVec Ideal S128x384 .f32) (i : Fin 128) (j : Fin 384) :
    expos s (ix2 i j) = weight (fun j => s (ix2 i j)) j := by
  unfold expos
  pointwise []
  rw [word_bot]
  rfl

/-- Each is divided by the sum of its row. -/
theorem probs_apply (s : FVec Ideal S128x384 .f32) (i : Fin 128) (j : Fin 384) :
    probs s (ix2 i j) = Ideal.div (weight (fun j => s (ix2 i j)) j) (∑ j', weight (fun j => s (ix2 i j)) j') := by
  unfold probs
  pointwise []
  simp only [expos_apply]

/-- A head's result is the softmax average of its values. -/
theorem context_apply (s : FVec Ideal S128x384 .f32) (v : FVec Ideal S384x64 .f32) (i : Fin 128) (d : Fin 64) :
    context s v (ix2 i d) = soft (fun j => s (ix2 i j)) (fun j => v (ix2 j d)) := by
  unfold context
  pointwise []
  simp only [probs_apply]
  rfl

/-- A batch's result, the heads counted by the projection's rows. -/
theorem project_apply (x : Fin 4 → FVec Ideal S128x64 .f32) (w : FVec Ideal S256x512 .f32) (i : Fin 128) (n : Fin 512) :
    project (x 0) (x 1) (x 2) (x 3) w (ix3 0 i n)
      = ∑ e : Fin 256, x ⟨e.val / 64, by omega⟩ (ix2 i ⟨e.val % 64, by omega⟩) * w (ix2 e n) := by
  unfold project
  pointwise []
  refine Finset.sum_congr rfl fun e _ => congrArg (fun y : EReal => y * w (ix2 e n)) ?_
  exact quarters (fun h d => x h (ix2 i d)) e _

/-- A key or value in reach: of the left block, the own, or the right. -/
theorem reach_apply (b : Fin 2) (h : Fin 4) (hs : S2x128x4x64.Slices ![b.val, 0, h.val, 0] S1x128x1x64)
    (l o r : FVec Ideal S2x128x4x64 .f32) (j : Fin 384) (d : Fin 64) :
    reach b.val h.val hs l o r (ix2 j d)
      = (if j.val / 128 = 0 then l else if j.val / 128 = 1 then o else r) (ix4 b ⟨j.val % 128, by omega⟩ h d) := by
  unfold reach
  pointwise []
  refine (thirds (fun x => l (ix4 b x h d)) (fun x => o (ix4 b x h d)) (fun x => r (ix4 b x h d)) j _).trans ?_
  split_ifs <;> rfl

/-- A head's queries are 64 columns of its batch's. -/
theorem query_apply (h : Fin 4) (hs : S128x256.Slices ![0, 64 * h.val] S128x64) (q : FVec Ideal S128x256 .f32) (i : Fin 128) (d : Fin 64) :
    query (64 * h.val) hs q (ix2 i d) = q (ix2 i ⟨64 * h.val + d.val, by omega⟩) := by
  unfold query
  pointwise []

/-- The projected queries of the two batches. -/
theorem queries0 (x : FVec Ideal S2x128x512 .f32) (w : FVec Ideal S512x256 .f32) (i : Fin 128) (e : Fin 256) :
    k0_pay8 x w (ix2 i e) = ∑ k : Fin 512, x (ix3 0 i k) * w (ix2 k e) := by
  pointwise [k0_pay8, k0_pay7, k0_pay6]

/-- The second batch's. -/
theorem queries1 (x : FVec Ideal S2x128x512 .f32) (w : FVec Ideal S512x256 .f32) (i : Fin 128) (e : Fin 256) :
    k0_pay9 x w (ix2 i e) = ∑ k : Fin 512, x (ix3 1 i k) * w (ix2 k e) := by
  pointwise [k0_pay9, k0_pay7, k0_pay6]

end Cert.Halo

end
-- ==== Proof.Device.lean ====
/-
# What a device computes

The result of a device, element by element: for each head the softmax average of the values in reach, projected.
-/
module

public import proofs.«01_k».proof.Proof.Heads
public import proofs.«01_k».proof.Proof.Window
public import proofs.«01_k».proof.Proof.Run

@[expose] public section

set_option maxRecDepth 16384

noncomputable section

namespace Cert.Halo

open Cert.KernelIdeal Cert.KernelIdeal.Gen

open Idealize.ShloMosaic
open Idealize.ShloMosaic.TcCoe
open scoped BigOperators

variable (m : (ℓ : Loc nD τ sig) → Buf (Elt Ideal) ℓ) (ρ : Dev nD → PrngReg)

/-! ## The heads of the body -/

/-- A head's rows of a block, and its columns of the queries. -/
theorem rows_fit (b : Fin 2) (h : Fin 4) : S2x128x4x64.Slices ![b.val, 0, h.val, 0] S1x128x1x64 := by revert b h; decide
/-- A head's columns of the queries fit. -/
theorem cols_fit (h : Fin 4) : S128x256.Slices ![0, 64 * h.val] S128x64 := by revert h; decide

/-- A head of a batch, from the batch's queries. -/
abbrev head (q : FVec Ideal S128x256 .f32) (c : Dev nD) (b : Fin 2) (h : Fin 4) : FVec Ideal S128x64 .f32 :=
  context (scores (mask c) (query (64 * h.val) (cols_fit h) q) (reach b.val h.val (rows_fit b h) (kl m ρ c) (kc m ρ c) (kr m ρ c)))
    (reach b.val h.val (rows_fit b h) (vl m ρ c) (vc m ρ c) (vr m ρ c))

/-- The first batch's result is its four heads, projected. -/
theorem out0_eq (c : Dev nD) :
    out0 m ρ c = project (head m ρ (q0 m ρ c) c 0 0) (head m ρ (q0 m ρ c) c 0 1) (head m ρ (q0 m ρ c) c 0 2) (head m ρ (q0 m ρ c) c 0 3) (wo m ρ c) := rfl

/-- So is the second's. -/
theorem out1_eq (c : Dev nD) :
    out1 m ρ c = project (head m ρ (q1 m ρ c) c 1 0) (head m ρ (q1 m ρ c) c 1 1) (head m ρ (q1 m ρ c) c 1 2) (head m ρ (q1 m ρ c) c 1 3) (wo m ρ c) := rfl

/-! ## What is staged -/

/-- A device's arguments. -/
abbrev argX (c : Dev nD) : S2x128x512.Idx → EReal := m ((c : Thread nD τ).loc main_arg0)
/-- The query weights. -/
abbrev argQ (c : Dev nD) : S512x256.Idx → EReal := m ((c : Thread nD τ).loc main_arg1)
/-- The keys. -/
abbrev argK (c : Dev nD) : S2x128x4x64.Idx → EReal := m ((c : Thread nD τ).loc main_arg2)
/-- The values. -/
abbrev argV (c : Dev nD) : S2x128x4x64.Idx → EReal := m ((c : Thread nD τ).loc main_arg3)
/-- The weights of the projection. -/
abbrev argO (c : Dev nD) : S256x512.Idx → EReal := m ((c : Thread nD τ).loc main_arg4)

/-- The staged activations are the argument. -/
theorem x_eq (c : Dev nD) : xstg m ρ c = argX m c := by
  unfold xstg
  exact funext fun i => congrArg (argX m c) (funext fun a => Fin.ext
    (Pipeline.Window.rect_emb_val_of_index_zero win0_0 (0 : Fin 1) a rfl i))

/-- The staged query weights are the argument. -/
theorem wq_eq (c : Dev nD) : wqstg m ρ c = argQ m c := by
  unfold wqstg
  exact funext fun i => congrArg (argQ m c) (funext fun a => Fin.ext
    (Pipeline.Window.rect_emb_val_of_index_zero win0_1 (0 : Fin 1) a rfl i))

/-- The staged keys are the argument. -/
theorem k_eq (c : Dev nD) : kstg m ρ c = argK m c := by
  unfold kstg
  exact funext fun i => congrArg (argK m c) (funext fun a => Fin.ext
    (Pipeline.Window.rect_emb_val_of_index_zero win0_2 (0 : Fin 1) a rfl i))

/-- The staged values are the argument. -/
theorem v_eq (c : Dev nD) : vstg m ρ c = argV m c := by
  unfold vstg
  exact funext fun i => congrArg (argV m c) (funext fun a => Fin.ext
    (Pipeline.Window.rect_emb_val_of_index_zero win0_3 (0 : Fin 1) a rfl i))

/-- The staged weights of the projection are the argument. -/
theorem wo_eq (c : Dev nD) : wostg m ρ c = argO m c := by
  unfold wostg
  exact funext fun i => congrArg (argO m c) (funext fun a => Fin.ext
    (Pipeline.Window.rect_emb_val_of_index_zero win0_4 (0 : Fin 1) a rfl i))

/-- The result's array ends with what the body leaves. -/
theorem final_out (c : Dev nD) : finalA m ρ c (5 : Fin 6) = outAt m ρ c := by
  have h : (win0_5.blk (0 : Fin 1)).view.read (Elt Ideal) (finalA m ρ c (5 : Fin 6)) = outAt m ρ c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  exact Eq.trans (funext fun i => congrArg (finalA m ρ c (5 : Fin 6)) (funext fun a => Fin.ext
    (Pipeline.Window.rect_emb_val_of_index_zero win0_5 (0 : Fin 1) a rfl i).symm)) h

/-! ## The heads at an element -/

/-- The device that column `j` of device `c`'s window belongs to, around the ring. -/
def owner (c : Dev nD) (j : Fin 384) : Dev nD := ⟨nbr c.val (j.val / 128), by
  have := c.isLt
  show nbr c.val (j.val / 128) < 32
  unfold nbr
  split
  · omega
  · split <;> omega⟩

/-- The block that column `j` is read from. -/
abbrev blockOf {α : Type} (l o r : α) (j : Fin 384) : α := if j.val / 128 = 0 then l else if j.val / 128 = 1 then o else r

/-- A column that some row is near to is in a block that was sent or is the device's own. -/
theorem block_near (B : Dev nD → S2x128x4x64.Idx → EReal) (l r : Fin 4) (hl : l.val < 2) (hr : ¬ r.val < 2)
    (hB : ∀ d, kv m ρ l d = B d) (hB' : ∀ d, kv m ρ r d = B d) (c : Dev nD) (i : Fin 128) (j : Fin 384)
    (h : near (128 * c.val + i.val) (col c.val j.val) = true) :
    blockOf (halo m ρ l c) (B c) (halo m ρ r c) j = B (owner c j) := by
  have hc : c.val < 32 := c.isLt
  have hj := j.isLt
  unfold blockOf
  split
  · rename_i h0
    rw [halo_in m ρ (by unfold takes hasL; rw [if_pos hl]; exact decide_eq_true (near_left hc i.isLt (by omega) h)), hB]
    unfold org
    rw [if_pos hl]
    exact congrArg B (Fin.ext (by show (c.val + 31) % 32 = nbr c.val (j.val / 128); unfold nbr; rw [if_pos h0]))
  · rename_i h0
    split
    · rename_i h1
      exact congrArg B (Fin.ext (by show c.val = nbr c.val (j.val / 128); unfold nbr; rw [if_neg h0, if_pos h1]))
    · rename_i h1
      rw [halo_in m ρ (by unfold takes hasR; rw [if_neg hr]; exact decide_eq_true (near_right hc i.isLt (by omega) hj h)), hB']
      unfold org
      rw [if_neg hr]
      exact congrArg B (Fin.ext (by show (c.val + 1) % 32 = nbr c.val (j.val / 128); unfold nbr; rw [if_neg h0, if_neg h1]))

/-- A device's queries, its scores against a column of its window, and the value it finds there. -/
def devQuery (c : Dev nD) (b : Fin 2) (i : Fin 128) (e : Fin 256) : EReal :=
  ∑ k : Fin 512, argX m c (ix3 b i k) * argQ m c (ix2 k e)
/-- The score of row `i` against column `j` of the window, −∞ where they are not near. -/
def devScore (c : Dev nD) (b : Fin 2) (h : Fin 4) (i : Fin 128) (j : Fin 384) : EReal :=
  if near (128 * c.val + i.val) (col c.val j.val) = true then
    (∑ d : Fin 64, devQuery m c b i ⟨64 * h.val + d.val, by omega⟩
      * argK m (owner c j) (ix4 b ⟨j.val % 128, by omega⟩ h d)) * scale
  else ⊥
/-- Entry `d` of the value at column `j` of the window. -/
def devValue (c : Dev nD) (b : Fin 2) (h : Fin 4) (d : Fin 64) (j : Fin 384) : EReal :=
  blockOf (halo m ρ 1 c) (argV m c) (halo m ρ 3 c) j (ix4 b ⟨j.val % 128, by omega⟩ h d)

/-- At a near column the value is the owner's. -/
theorem devValue_near (c : Dev nD) (b : Fin 2) (h : Fin 4) (d : Fin 64) (i : Fin 128) (j : Fin 384)
    (hn : near (128 * c.val + i.val) (col c.val j.val) = true) :
    devValue m ρ c b h d j = argV m (owner c j) (ix4 b ⟨j.val % 128, by omega⟩ h d) :=
  congrFun (block_near m ρ (fun d => argV m d) 1 3 (by decide) (by decide) (v_eq m ρ) (v_eq m ρ) c i j hn) _

/-- A head at an element. -/
theorem head_apply (q : FVec Ideal S128x256 .f32) (c : Dev nD) (b : Fin 2) (hq : ∀ i e, q (ix2 i e) = devQuery m c b i e) (h : Fin 4)
    (i : Fin 128) (d : Fin 64) :
    head m ρ q c b h (ix2 i d) = soft (devScore m c b h i) (devValue m ρ c b h d) := by
  have hk : kc m ρ c = argK m c := (shapeCast_self _ _).trans (k_eq m ρ c)
  have hv' : vc m ρ c = argV m c := (shapeCast_self _ _).trans (v_eq m ρ c)
  have kl_eq : kl m ρ c = halo m ρ 0 c := by unfold kl k0_pay16; exact sq_unsq _
  have kr_eq : kr m ρ c = halo m ρ 2 c := by unfold kr k0_pay17; exact sq_unsq _
  have vl_eq : vl m ρ c = halo m ρ 1 c := by unfold vl k0_pay33; exact sq_unsq _
  have vr_eq : vr m ρ c = halo m ρ 3 c := by unfold vr k0_pay34; exact sq_unsq _
  unfold head
  rw [context_apply]
  refine congrArg₂ soft (funext fun j => ?_) (funext fun j => ?_)
  · rw [scores_apply, mask_apply]
    unfold devScore
    by_cases hn : near (128 * c.val + i.val) (col c.val j.val) = true
    · rw [if_pos hn, if_pos (by rw [hn]; rfl)]
      refine congrArg (· * scale) (Finset.sum_congr rfl fun x _ => ?_)
      rw [query_apply, hq, reach_apply, hk, kl_eq, kr_eq]
      refine congrArg (_ * ·) (congrFun ?_ _)
      exact block_near m ρ (fun d => argK m d) 0 2 (by decide) (by decide) (k_eq m ρ) (k_eq m ρ) c i j hn
    · rw [if_neg hn, if_neg (by rw [Bool.eq_false_iff.2 hn]; decide)]
  · rw [reach_apply, hv', vl_eq, vr_eq]
    rfl

/-- A batch's result at an element. -/
theorem batch_apply (q : FVec Ideal S128x256 .f32) (c : Dev nD) (b : Fin 2) (hq : ∀ i e, q (ix2 i e) = devQuery m c b i e) (i : Fin 128)
    (n : Fin 512) :
    project (head m ρ q c b 0) (head m ρ q c b 1) (head m ρ q c b 2) (head m ρ q c b 3) (wo m ρ c) (ix3 0 i n)
      = ∑ e : Fin 256, soft (devScore m c b ⟨e.val / 64, by omega⟩ i) (devValue m ρ c b ⟨e.val / 64, by omega⟩ ⟨e.val % 64, by omega⟩)
        * argO m c (ix2 e n) := by
  have hwo : wo m ρ c = argO m c := (shapeCast_self _ _).trans (wo_eq m ρ c)
  rw [project_apply (head m ρ q c b), hwo]
  exact Finset.sum_congr rfl fun e _ => by rw [head_apply m ρ q c b hq]

/-- The result of a device at an element. -/
theorem out_apply (c : Dev nD) (b : Fin 2) (i : Fin 128) (n : Fin 512) :
    (outAt m ρ c (ix3 b i n) : EReal)
      = ∑ e : Fin 256, soft (devScore m c b ⟨e.val / 64, by omega⟩ i) (devValue m ρ c b ⟨e.val / 64, by omega⟩ ⟨e.val % 64, by omega⟩)
        * argO m c (ix2 e n) := by
  have hrow : row (ix3 b i n) = ix3 0 i n := by
    funext a; match a with | ⟨0, _⟩ => rfl | ⟨1, _⟩ => rfl | ⟨2, _⟩ => rfl
  unfold outAt
  rw [hrow, out0_eq, out1_eq]
  split
  · rename_i hb
    obtain rfl : b = 0 := Fin.ext hb
    exact batch_apply m ρ (q0 m ρ c) c 0 (fun i e => by unfold q0; rw [queries0, x_eq, wq_eq]; rfl) i n
  · rename_i hb
    obtain rfl : b = 1 := Fin.ext (by have := b.isLt; have hb : ¬ b.val = 0 := hb; show b.val = 1; omega)
    exact batch_apply m ρ (q1 m ρ c) c 1 (fun i e => by unfold q1; rw [queries1, x_eq, wq_eq]; rfl) i n

end Cert.Halo

end
-- ==== Proof.Whole.lean ====
/-
# What the reference computes

The reference's result, stage by stage and at an element: for each head the softmax average of the values of all 4096 places, the scores
at −∞ where the places are far, projected.
-/
module

public import proofs.«01_k».proof.Proof.Heads
public import proofs.«01_k».proof.Proof.Gen.ReferenceIdeal.Run
public import Idealize.ShloMosaic.Lib.Pointwise
public import Idealize.ShloMosaic.Lib.Tactic.CleanTypes
public import Idealize.ShloMosaic.Lib.Routing.OpsOrder

@[expose] public section

set_option maxRecDepth 16384

noncomputable section

namespace Cert.Halo.Whole

open Cert.ReferenceIdeal Cert.ReferenceIdeal.Gen Cert.ReferenceIdeal.Value

open Idealize.ShloMosaic
open Idealize.ShloMosaic.TcCoe
open scoped BigOperators

/-! ## Stages -/

/-- Which places see which. -/
def sees : IVec S4096x4096 1 :=
  cmpi .sle (absi (subi (broadcastInDim S4096x4096 ![0, 1] bcast_S4096x1_S4096x4096_0_1 (broadcastInDim S4096x1 ![0] bcast_S4096_S4096x1_0 (iotaInDim S4096 32 0)))
    (broadcastInDim S4096x4096 ![0, 1] bcast_S1x4096_S4096x4096_0_1 (broadcastInDim S1x4096 ![1] bcast_S4096_S1x4096_1 (iotaInDim S4096 32 0)))))
    (broadcastInDim S4096x4096 ![] bcast_S_S4096x4096 (constantI S_ 32 128#32))

/-- Which places see any. -/
def seesAny : IVec S4096 1 := Host.reduce IntOp.ori sees (constantI S_ 1 0#1) reducesTo_S4096x4096_S4096_d1 h_S_

/-- The projected queries, cut into heads. -/
def queries (x : FVec Ideal S2x4096x512 .f32) (w : FVec Ideal S512x256 .f32) : FVec Ideal S2x4096x4x64 .f32 :=
  shapeCast S2x4096x4x64 (Host.dotGeneral dot_S2x4096x512_S512x256_S2x4096x256_2_0_01_1_n_n none x w) shapeCasts_S2x4096x256_S2x4096x4x64

/-- The masked scores. -/
def masked (q k : FVec Ideal S2x4096x4x64 .f32) : FVec Ideal S2x4x4096x4096 .f32 :=
  select (broadcastInDim S2x4x4096x4096 ![0, 1, 2, 3] bcast_S1x1x4096x4096_S2x4x4096x4096_0_1_2_3
      (broadcastInDim S1x1x4096x4096 ![2, 3] bcast_S4096x4096_S1x1x4096x4096_2_3 sees))
    (mulf (Host.dotGeneral dot_S2x4096x4x64_S2x4096x4x64_S2x4x4096x4096_3_3_1_1_02_02 none q k)
      (broadcastInDim S2x4x4096x4096 ![] bcast_S_S2x4x4096x4096 (constant S_ .f32 0x3E000000#32)))
    (broadcastInDim S2x4x4096x4096 ![] bcast_S_S2x4x4096x4096 (id (constant S_ .f32 0xFF800000#32)))

/-- The exponentials of the scores, the row's greatest taken away. -/
def expos (s : FVec Ideal S2x4x4096x4096 .f32) : FVec Ideal S2x4x4096x4096 .f32 :=
  Host.exp (subf s (broadcastInDim S2x4x4096x4096 ![0, 1, 2, 3] bcast_S2x4x4096x1_S2x4x4096x4096_0_1_2_3
    (broadcastInDim S2x4x4096x1 ![0, 1, 2] bcast_S2x4x4096_S2x4x4096x1_0_1_2
      (Host.reduce FloatOps.maximumf s (constant S_ .f32 0xFF800000#32) reducesTo_S2x4x4096x4096_S2x4x4096_d3 h_S_))))

/-- The exponentials' sums, or 1 where a place sees none. -/
def totals (e : FVec Ideal S2x4x4096x4096 .f32) : FVec Ideal S2x4x4096x1 .f32 :=
  select (broadcastInDim S2x4x4096x1 ![0, 1, 2, 3] bcast_S1x1x4096x1_S2x4x4096x1_0_1_2_3 (broadcastInDim S1x1x4096x1 ![2] bcast_S4096_S1x1x4096x1_2 seesAny))
    (broadcastInDim S2x4x4096x1 ![0, 1, 2] bcast_S2x4x4096_S2x4x4096x1_0_1_2
      (Host.reduceAdd e (constant S_ .f32 0x00000000#32) reducesTo_S2x4x4096x4096_S2x4x4096_d3 h_S_))
    (broadcastInDim S2x4x4096x1 ![] bcast_S_S2x4x4096x1 (id (constant S_ .f32 0x3F800000#32)))

/-- The probabilities, or 0 where a place sees none. -/
def probs (e : FVec Ideal S2x4x4096x4096 .f32) : FVec Ideal S2x4x4096x4096 .f32 :=
  select (broadcastInDim S2x4x4096x4096 ![0, 1, 2, 3] bcast_S1x1x4096x1_S2x4x4096x4096_0_1_2_3 (broadcastInDim S1x1x4096x1 ![2] bcast_S4096_S1x1x4096x1_2 seesAny))
    (Host.divf e (broadcastInDim S2x4x4096x4096 ![0, 1, 2, 3] bcast_S2x4x4096x1_S2x4x4096x4096_0_1_2_3 (totals e)))
    (broadcastInDim S2x4x4096x4096 ![] bcast_S_S2x4x4096x4096 (id (constant S_ .f32 0x00000000#32)))

/-- The values weighed by the probabilities. -/
def context (v : FVec Ideal S2x4096x4x64 .f32) (p : FVec Ideal S2x4x4096x4096 .f32) : FVec Ideal S2x4x64x4096 .f32 :=
  Host.dotGeneral dot_S2x4096x4x64_S2x4x4096x4096_S2x4x64x4096_1_3_3_2_02_01 none v p

/-- The heads side by side, projected. -/
def project (c : FVec Ideal S2x4x64x4096 .f32) (w : FVec Ideal S256x512 .f32) : FVec Ideal S2x4096x512 .f32 :=
  Host.dotGeneral dot_S2x4096x256_S256x512_S2x4096x512_2_0_01_1_n_n none
    (shapeCast S2x4096x256 (transpose S2x4096x4x64 [0, 3, 1, 2] c transposes_S2x4x64x4096_S2x4096x4x64_0_3_1_2) shapeCasts_S2x4096x4x64_S2x4096x256) w

/-- The reference's result is its stages, one after the other. -/
theorem result_eq (m : (ℓ : Loc nD τ sig) → Buf (Elt Ideal) ℓ) (c : Dev nD) :
    res_main_v34 m c = project (context (m ((c : Thread nD τ).loc main_arg3)) (probs (expos (masked (queries (m ((c : Thread nD τ).loc main_arg0)) (m ((c : Thread nD τ).loc main_arg1)))
      (m ((c : Thread nD τ).loc main_arg2)))))) (m ((c : Thread nD τ).loc main_arg4)) := by
  unfold res_main_v34 project context probs totals expos masked queries seesAny sees
  rfl

/-! ## At an element -/

/-- A place sees those at most 128 away. -/
theorem sees_apply (t u : Fin 4096) : sees (ix2 t u) = BitVec.ofBool (near t.val u.val) := by
  unfold sees
  pointwise []
  exact near_word t.isLt u.isLt

/-- Every place sees itself. -/
theorem seesAny_apply (t : Fin 4096) : seesAny (ix1 t) = 1#1 := by
  unfold seesAny
  pointwise []
  exact (Routing.fold_ori _ _).2 ⟨t, Finset.mem_univ _, by rw [sees_apply, near_self]; rfl⟩

/-- The queries, head by head. -/
theorem queries_apply (x : FVec Ideal S2x4096x512 .f32) (w : FVec Ideal S512x256 .f32) (b : Fin 2) (t : Fin 4096) (h : Fin 4) (d : Fin 64) :
    queries x w (ix4 b t h d) = ∑ k : Fin 512, x (ix3 b t k) * w (ix2 k ⟨64 * h.val + d.val, by omega⟩) := by
  unfold queries
  pointwise []
  exact Finset.sum_congr rfl fun k _ => congrArg (fun e : Fin 256 => x (ix3 b t k) * w (ix2 k e)) (Fin.ext (by show h.val * 64 + d.val = 64 * h.val + d.val; omega))

/-- A score, or −∞ where the places are not near. -/
theorem masked_apply (q k : FVec Ideal S2x4096x4x64 .f32) (b : Fin 2) (h : Fin 4) (t u : Fin 4096) :
    masked q k (ix4 b h t u) = if near t.val u.val = true then (∑ d : Fin 64, q (ix4 b t h d) * k (ix4 b u h d)) * scale else ⊥ := by
  unfold masked
  pointwise []
  rw [sees_apply, show (id (constant S_ .f32 4286578688#32) : FVec Ideal S_ .f32) ix0 = (⊥ : EReal) from word_bot]
  by_cases hn : near t.val u.val = true
  · rw [if_pos hn, hn]; rfl
  · rw [if_neg hn, Bool.eq_false_iff.2 hn]; rfl

/-- The exponentials are the weights, before the division. -/
theorem expos_apply (s : FVec Ideal S2x4x4096x4096 .f32) (b : Fin 2) (h : Fin 4) (t u : Fin 4096) :
    expos s (ix4 b h t u) = weight (fun u => s (ix4 b h t u)) u := by
  unfold expos
  pointwise []
  rw [word_bot]
  rfl

/-- The sum of a row, which is never replaced: every place sees some place. -/
theorem totals_apply (e : FVec Ideal S2x4x4096x4096 .f32) (b : Fin 2) (h : Fin 4) (t : Fin 4096) :
    totals e (ix4 b h t 0) = ∑ u : Fin 4096, e (ix4 b h t u) := by
  unfold totals
  pointwise []
  rw [seesAny_apply]
  rfl

/-- A row's total, spread over its columns. -/
theorem wide_total (y : FVec Ideal S2x4x4096x1 .f32) (b : Fin 2) (h : Fin 4) (t u : Fin 4096) :
    broadcastInDim S2x4x4096x4096 ![0, 1, 2, 3] bcast_S2x4x4096x1_S2x4x4096x4096_0_1_2_3 y (ix4 b h t u) = y (ix4 b h t 0) := by
  pointwise []

/-- A row's bit, spread over heads and columns. -/
theorem wide_bit (y : IVec S4096 1) (b : Fin 2) (h : Fin 4) (t u : Fin 4096) :
    broadcastInDim S2x4x4096x4096 ![0, 1, 2, 3] bcast_S1x1x4096x1_S2x4x4096x4096_0_1_2_3 (broadcastInDim S1x1x4096x1 ![2] bcast_S4096_S1x1x4096x1_2 y)
      (ix4 b h t u) = y (ix1 t) := by
  pointwise []

/-- Where the bit is set the quotient is chosen. -/
theorem chosen (k : IVec S2x4x4096x4096 1) (x y z : FVec Ideal S2x4x4096x4096 .f32) (i : S2x4x4096x4096.Idx) (hk : k i = 1#1) :
    select k (Host.divf x y) z i = Ideal.div (x i) (y i) := if_pos hk

/-- Each exponential is divided by the sum of its row. -/
theorem probs_apply (e : FVec Ideal S2x4x4096x4096 .f32) (b : Fin 2) (h : Fin 4) (t u : Fin 4096) :
    probs e (ix4 b h t u) = Ideal.div (e (ix4 b h t u)) (∑ u : Fin 4096, e (ix4 b h t u)) := by
  unfold probs
  rw [chosen _ _ _ _ _ ((wide_bit _ b h t u).trans (seesAny_apply t)), wide_total, totals_apply]

/-- The product over the places, for any number of them: the batch and head axes run along. -/
theorem weighed {N : ℕ} (wf) (v : FVec Ideal ⟨4, ![2, N, 4, 64]⟩ .f32) (p : FVec Ideal ⟨4, ![2, 4, N, N]⟩ .f32)
    (b : Fin 2) (h : Fin 4) (d : Fin 64) (t : Fin N) :
    Host.dotGeneral (⟨[1], [3], [3], [2], [0, 2], [0, 1], wf⟩ : DotDims ⟨4, ![2, N, 4, 64]⟩ ⟨4, ![2, 4, N, N]⟩ ⟨4, ![2, 4, 64, N]⟩) none v p (ix4 b h d t)
      = ∑ u : Fin N, p (ix4 b h t u) * v (ix4 b u h d) := by
  refine (Ideal.matmul_apply₁_of (⟨[1], [3], [3], [2], [0, 2], [0, 1], wf⟩ : DotDims ⟨4, ![2, N, 4, 64]⟩ ⟨4, ![2, 4, N, N]⟩ ⟨4, ![2, 4, 64, N]⟩)
    (a := 1) rfl (K := N) rfl v p (fun _ => 0) _ (fun u => ix4 b u h d) (fun u => ix4 b h t u)
    (fun k => Shape.Idx.norm4 _) (fun k => Shape.Idx.norm4 _)).trans ?_
  rw [zero_add]
  exact Finset.sum_congr rfl fun u _ => mul_comm _ _

/-- The average of the values. -/
theorem context_apply (v : FVec Ideal S2x4096x4x64 .f32) (p : FVec Ideal S2x4x4096x4096 .f32) (b : Fin 2) (h : Fin 4) (d : Fin 64) (t : Fin 4096) :
    context v p (ix4 b h d t) = ∑ u : Fin 4096, p (ix4 b h t u) * v (ix4 b u h d) := by
  exact weighed _ v p b h d t

/-- The heads side by side, projected. -/
theorem project_apply (c : FVec Ideal S2x4x64x4096 .f32) (w : FVec Ideal S256x512 .f32) (b : Fin 2) (t : Fin 4096) (n : Fin 512) :
    project c w (ix3 b t n) = ∑ e : Fin 256, c (ix4 b ⟨e.val / 64, by omega⟩ ⟨e.val % 64, by omega⟩ t) * w (ix2 e n) := by
  unfold project
  pointwise []

/-! ## The result -/

variable (m : (ℓ : Loc nD τ sig) → Buf (Elt Ideal) ℓ)

/-- The reference's arguments. -/
abbrev argX (c : Dev nD) : S2x4096x512.Idx → EReal := m ((c : Thread nD τ).loc main_arg0)
/-- The query weights. -/
abbrev argQ (c : Dev nD) : S512x256.Idx → EReal := m ((c : Thread nD τ).loc main_arg1)
/-- The keys. -/
abbrev argK (c : Dev nD) : S2x4096x4x64.Idx → EReal := m ((c : Thread nD τ).loc main_arg2)
/-- The values. -/
abbrev argV (c : Dev nD) : S2x4096x4x64.Idx → EReal := m ((c : Thread nD τ).loc main_arg3)
/-- The weights of the projection. -/
abbrev argO (c : Dev nD) : S256x512.Idx → EReal := m ((c : Thread nD τ).loc main_arg4)

/-- The reference's queries, and its score of a place against a place. -/
def query (c : Dev nD) (b : Fin 2) (t : Fin 4096) (e : Fin 256) : EReal := ∑ k : Fin 512, argX m c (ix3 b t k) * argQ m c (ix2 k e)
/-- The reference's score of a place against a place, −∞ where they are not near. -/
def score (c : Dev nD) (b : Fin 2) (h : Fin 4) (t u : Fin 4096) : EReal :=
  if near t.val u.val = true then
    (∑ d : Fin 64, query m c b t ⟨64 * h.val + d.val, by omega⟩ * argK m c (ix4 b u h d)) * scale
  else ⊥

/-- The result of the reference at an element. -/
theorem result_apply (c : Dev nD) (b : Fin 2) (t : Fin 4096) (n : Fin 512) :
    (res_main_v34 m c (ix3 b t n) : EReal)
      = ∑ e : Fin 256, soft (score m c b ⟨e.val / 64, by omega⟩ t) (fun u => argV m c (ix4 b u ⟨e.val / 64, by omega⟩ ⟨e.val % 64, by omega⟩))
        * argO m c (ix2 e n) := by
  rw [result_eq]
  refine (project_apply _ _ b t n).trans (Finset.sum_congr rfl fun e _ => congrArg (· * argO m c (ix2 e n)) ?_)
  rw [context_apply]
  unfold soft
  have hs : ∀ h u, masked (queries (argX m c) (argQ m c)) (argK m c) (ix4 b h t u) = score m c b h t u := fun h u => by
    rw [masked_apply]
    simp only [queries_apply]
    rfl
  refine Finset.sum_congr rfl fun u _ => congrArg (· * argV m c (ix4 b u ⟨e.val / 64, by omega⟩ ⟨e.val % 64, by omega⟩)) ?_
  rw [probs_apply]
  simp only [expos_apply, hs]

end Cert.Halo.Whole

end
-- ==== Proof.Finite.lean ====
/-
# The precondition

Where the precondition holds, every element of the activations, of the query weights and of the keys is a real number.
-/
module

public import proofs.«01_k».proof.Defs
public import proofs.«01_k».proof.Proof.Softmax
public import Idealize.ShloMosaic.Lib.ReduceAll
public import Idealize.ShloMosaic.Lib.Affine

@[expose] public section

set_option maxRecDepth 16384

noncomputable section

namespace Cert.Halo

open Idealize.ShloMosaic
open Idealize.ShloMosaic.TcCoe

/-- The stated facts of the precondition, as read of the kernel's arguments. -/
theorem facts_kernel : Cert.Pre_finite_KernelIdeal.Facts where
  bcast_S_S2x128x512 := by decide
  reducesTo_S2x128x512_S_d0_1_2 := by decide
  h_S_ := by decide
  bcast_S_S512x256 := by decide
  reducesTo_S512x256_S_d0_1 := by decide
  bcast_S_S2x128x4x64 := by decide
  reducesTo_S2x128x4x64_S_d0_1_2_3 := by decide

/-- And as read of the reference's. -/
theorem facts_reference : Cert.Pre_finite_ReferenceIdeal.Facts where
  bcast_S_S2x4096x512 := by decide
  reducesTo_S2x4096x512_S_d0_1_2 := by decide
  h_S_ := by decide
  bcast_S_S512x256 := by decide
  reducesTo_S512x256_S_d0_1 := by decide
  bcast_S_S2x4096x4x64 := by decide
  reducesTo_S2x4096x4x64_S_d0_1_2_3 := by decide

/-- An extended real of absolute value less than ∞ is a real number. -/
theorem isReal_of_abs {x : EReal} (h : Ideal.cmp .olt (max x (-x)) ⊤ = 1#1) : IsReal x := by
  have hlt : max x (-x) < ⊤ := by
    by_contra hn
    revert h
    simp [Ideal.cmp, hn]
  constructor
  · rintro rfl
    simp at hlt
  · rintro rfl
    simp at hlt

/-- Of an array whose every element is compared so, and the comparisons joined: all are real. -/
theorem isReal_of_all {s o u : Shape} [Subsingleton o.Idx] {axes : List (Fin s.rank)} (x : FVec Ideal s .f32) (y : FVec Ideal s .f32) (hy : ∀ i, y i = (⊤ : EReal))
    (init : IVec u 1) (hr : s.ReducesTo axes o) (hu : 0 < u.numel) (j : o.Idx)
    (h : Host.reduce IntOp.andi (cmpf .olt (Host.absf x) y) init hr hu j = 1#1) (i : s.Idx) : IsReal (x i) := by
  have e : Ideal.cmp .olt (max (x i : EReal) (-(x i : EReal))) (y i) = 1#1 := Host.reduce_andi_all _ init hr hu j h i
  rw [hy] at e
  exact isReal_of_abs e

/-- The word of ∞. -/
theorem word_top : Ideal.ofBits .f32 0x7F800000#32 = (⊤ : EReal) := by
  norm_num [Ideal.ofBits, Ideal.ieee]
  rw [if_pos (by decide), if_neg (by decide)]

instance : Subsingleton Cert.Pre_finite_KernelIdeal.S_.Idx := ⟨fun a b => funext fun i => i.elim0⟩

/-- The precondition, element by element. -/
theorem real_args (m : (ℓ : Loc Cert.KernelIdeal.nD Cert.KernelIdeal.τ Cert.KernelIdeal.sig) → Buf (Elt Ideal) ℓ)
    (h : Cert.Pre_KernelIdeal_finite_KernelIdeal (hPre_finite_KernelIdeal := facts_kernel) m) (c : Dev Cert.KernelIdeal.nD) :
    (∀ i, IsReal (m ((c : Thread Cert.KernelIdeal.nD Cert.KernelIdeal.τ).loc Cert.KernelIdeal.main_arg0) i))
    ∧ (∀ i, IsReal (m ((c : Thread Cert.KernelIdeal.nD Cert.KernelIdeal.τ).loc Cert.KernelIdeal.main_arg1) i))
    ∧ (∀ i, IsReal (m ((c : Thread Cert.KernelIdeal.nD Cert.KernelIdeal.τ).loc Cert.KernelIdeal.main_arg2) i)) := by
  have h0 := congrFun (h c) (fun i => i.elim0)
  dsimp only [Cert.Pre_finite_KernelIdeal.fn] at h0
  obtain ⟨h01, h2⟩ := IntOp.andi_eq_one.1 h0
  obtain ⟨h0, h1⟩ := IntOp.andi_eq_one.1 h01
  exact ⟨isReal_of_all _ _ (fun _ => word_top) _ _ _ _ h0, isReal_of_all _ _ (fun _ => word_top) _ _ _ _ h1,
    isReal_of_all _ _ (fun _ => word_top) _ _ _ _ h2⟩

end Cert.Halo

end
-- ==== Proof.Equal.lean ====
/-
# The two results are one

Each device's result is its block of the reference's. The softmax over a device's window is the softmax over the whole sequence, because
the places outside the window, and the window's columns that wrap around the ring, are masked in both.
-/
module

public import proofs.«01_k».proof.Proof.Device
public import proofs.«01_k».proof.Proof.Whole
public import proofs.«01_k».proof.Proof.Finite
public import proofs.«01_k».proof.Proof.Frames

@[expose] public section

set_option maxRecDepth 16384

noncomputable section

namespace Cert.Halo

open Cert.KernelIdeal Cert.KernelIdeal.Gen

open Idealize.ShloMosaic Idealize.SL.Sem
open Idealize.ShloMosaic.TcCoe
open scoped BigOperators

/-- The place in the sequence of row `i` of device `c`. -/
def place (c : Dev nD) (i : Fin 128) : Fin 4096 := ⟨128 * c.val + i.val, by have : c.val < 32 := c.isLt; omega⟩

/-- The place of column `j` of device `c`'s window. -/
def colPlace (c : Dev nD) (j : Fin 384) : Fin 4096 := ⟨col c.val j.val, col_lt c.isLt⟩

/-- A row of a column's owner lies where the column does. -/
theorem place_owner (c : Dev nD) (j : Fin 384) : place (owner c j) ⟨j.val % 128, by omega⟩ = colPlace c j :=
  Fin.ext (by
    show 128 * nbr c.val (j.val / 128) + j.val % 128 = nbr c.val (j.val / 128) * 128 + j.val % 128
    omega)

/-- Where a row of a block lies in the whole array. -/
theorem rows_place (h : Layout.Tiles S2x128x512 ⟨3, ![2, 4096, 512]⟩ 1 32) (c : Dev nD) (b : Fin 2) (i : Fin 128) (k : Fin 512) :
    h.idx c (ix3 b i k) = ix3 b (place c i) k := by
  funext a
  match a with
  | ⟨0, _⟩ => rfl
  | ⟨1, _⟩ => exact Fin.ext (by show c.val * 128 + i.val = 128 * c.val + i.val; omega)
  | ⟨2, _⟩ => rfl

/-- The same of keys and values. -/
theorem heads_place (h : Layout.Tiles S2x128x4x64 ⟨4, ![2, 4096, 4, 64]⟩ 1 32) (c : Dev nD) (b : Fin 2) (i : Fin 128) (k : Fin 4) (d : Fin 64) :
    h.idx c (ix4 b i k d) = ix4 b (place c i) k d := by
  funext a
  match a with
  | ⟨0, _⟩ => rfl
  | ⟨1, _⟩ => exact Fin.ext (by show c.val * 128 + i.val = 128 * c.val + i.val; omega)
  | ⟨2, _⟩ => rfl
  | ⟨3, _⟩ => rfl

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

/-- The devices hold their parts of the reference's arguments. -/
structure Held : Prop where
  x : ∀ c b i k, argX m c (ix3 b i k) = Whole.argX m' 0 (ix3 b (place c i) k)
  q : ∀ c, argQ m c = Whole.argQ m' 0
  k : ∀ c b i h d, argK m c (ix4 b i h d) = Whole.argK m' 0 (ix4 b (place c i) h d)
  v : ∀ c b i h d, argV m c (ix4 b i h d) = Whole.argV m' 0 (ix4 b (place c i) h d)
  o : ∀ c, argO m c = Whole.argO m' 0

variable {m m'}

/-- A device's queries are the reference's at its rows. -/
theorem query_same (H : Held m m') (c : Dev nD) (b : Fin 2) (i : Fin 128) (e : Fin 256) :
    devQuery m c b i e = Whole.query m' 0 b (place c i) e := by
  unfold devQuery Whole.query
  exact Finset.sum_congr rfl fun k _ => by rw [H.x, H.q]

/-- A device's scores are the reference's at its rows and its window's columns. -/
theorem score_same (H : Held m m') (c : Dev nD) (b : Fin 2) (h : Fin 4) (i : Fin 128) (j : Fin 384) :
    devScore m c b h i j = Whole.score m' 0 b h (place c i) (colPlace c j) := by
  unfold devScore Whole.score
  refine if_congr Iff.rfl (congrArg (· * scale) (Finset.sum_congr rfl fun d _ => ?_)) rfl
  rw [query_same H, H.k, place_owner]

/-- A score that is not masked is of a near place. -/
theorem near_of_score {c : Dev Cert.ReferenceIdeal.nD} {b : Fin 2} {h : Fin 4} {t u : Fin 4096} (hs : Whole.score m' c b h t u ≠ ⊥) : near t.val u.val = true := by
  by_contra hn
  exact hs (if_neg hn)

/-- Where the arguments are real, a score is real or masked. -/
theorem devScore_real (hx : ∀ c i, IsReal (argX m c i)) (hq : ∀ c i, IsReal (argQ m c i)) (hk : ∀ c i, IsReal (argK m c i))
    (c : Dev nD) (b : Fin 2) (h : Fin 4) (i : Fin 128) (j : Fin 384) (hn : near (128 * c.val + i.val) (col c.val j.val) = true) :
    IsReal (devScore m c b h i j) := by
  unfold devScore
  rw [if_pos hn]
  exact IsReal.mul (IsReal.sum fun d => IsReal.mul (IsReal.sum fun k => IsReal.mul (hx c _) (hq c _)) (hk _ _)) isReal_scale

/-- A head of a device's row is the reference's. -/
theorem soft_same (H : Held m m') (hx : ∀ c i, IsReal (argX m c i)) (hq : ∀ c i, IsReal (argQ m c i)) (hk : ∀ c i, IsReal (argK m c i))
    (c : Dev nD) (b : Fin 2) (h : Fin 4) (i : Fin 128) (d : Fin 64) :
    soft (Whole.score m' 0 b h (place c i)) (fun u => Whole.argV m' 0 (ix4 b u h d)) = soft (devScore m c b h i) (devValue m ρ c b h d) := by
  have hc : c.val < 32 := c.isLt
  have hnear : ∀ j, devScore m c b h i j ≠ ⊥ → near (128 * c.val + i.val) (col c.val j.val) = true := fun j hj => by
    by_contra hn
    exact hj (if_neg hn)
  have hown : near (128 * c.val + i.val) (col c.val (128 + i.val)) = true := by
    have : col c.val (128 + i.val) = 128 * c.val + i.val := by
      unfold col nbr
      rw [if_neg (by omega), if_pos (by omega)]
      omega
    rw [this]
    exact near_self _
  refine soft_window (colPlace c) (fun j j' e => Fin.ext (col_inj hc j.isLt j'.isLt (congrArg Fin.val e))) (score_same H c b h i)
    (fun j hj => ?_) (fun u hu => ?_) (fun j hj => ?_) (j₀ := ⟨128 + i.val, by omega⟩) ?_
  · rw [devValue_near m ρ c b h d i j (hnear j hj), H.v, place_owner]
  · obtain ⟨j, hj, e⟩ := near_col hc i.isLt u.isLt (near_of_score hu)
    exact ⟨⟨j, hj⟩, Fin.ext e⟩
  · have hn := hnear j (by rw [hj]; exact top_ne_bot)
    exact (devScore_real hx hq hk c b h i j hn).1 hj
  · exact (devScore_real hx hq hk c b h i ⟨128 + i.val, by omega⟩ hown).2

/-- A device's result is its block of the reference's. -/
theorem result_same (H : Held m m') (hx : ∀ c i, IsReal (argX m c i)) (hq : ∀ c i, IsReal (argQ m c i)) (hk : ∀ c i, IsReal (argK m c i))
    (c : Dev nD) (b : Fin 2) (i : Fin 128) (n : Fin 512) :
    (outAt m ρ c (ix3 b i n) : EReal) = Cert.ReferenceIdeal.Value.res_main_v34 m' 0 (ix3 b (place c i) n) := by
  have e : (∑ e : Fin 256, soft (devScore m c b ⟨e.val / 64, by omega⟩ i) (devValue m ρ c b ⟨e.val / 64, by omega⟩ ⟨e.val % 64, by omega⟩) * argO m c (ix2 e n) : EReal)
      = ∑ e : Fin 256, soft (Whole.score m' 0 b ⟨e.val / 64, by omega⟩ (place c i)) (fun u => Whole.argV m' 0 (ix4 b u ⟨e.val / 64, by omega⟩ ⟨e.val % 64, by omega⟩)) * Whole.argO m' 0 (ix2 e n) :=
    Finset.sum_congr rfl fun e _ => by rw [soft_same ρ H hx hq hk, H.o]
  exact (out_apply m ρ c b i n).trans (e.trans (Whole.result_apply m' 0 b (place c i) n).symm)

/-- Every device ends with its block of the reference's result. -/
theorem algebraic : Cert.algebraic_KernelIdeal_ReferenceIdeal_pre_finite_KernelIdeal (hPre_finite_KernelIdeal := facts_kernel) := by
  intro m ρ m' ρ' hpre hm
  have H : Held m m' :=
    { x := fun c b i k => (congrFun (hm c).1 (ix3 b i k)).trans (congrArg (Whole.argX m' 0) (rows_place _ c b i k))
      q := fun c => (hm c).2.1
      k := fun c b i h d => (congrFun (hm c).2.2.1 (ix4 b i h d)).trans (congrArg (Whole.argK m' 0) (heads_place _ c b i h d))
      v := fun c b i h d => (congrFun (hm c).2.2.2.1 (ix4 b i h d)).trans (congrArg (Whole.argV m' 0) (heads_place _ c b i h d))
      o := fun c => (hm c).2.2.2.2 }
  have hr := real_args m hpre
  refine ⟨Cert.ReferenceIdeal.Value.res_main_v34 m' 0, (θ_run defs _ _).mono (fun r h c => ?_) (run_main m ρ),
    (θ_run Cert.ReferenceIdeal.defs _ _).mono (fun r h => h 0) (Cert.ReferenceIdeal.Value.run (F := Ideal) m' ρ')⟩
  have hf := final_in m ρ c
  refine ⟨(h.1 c (5 : Fin 6)).trans ((final_out m ρ c).trans (funext fun j => ?_)), (h.1 c (0 : Fin 6)).trans hf.1, (h.1 c (1 : Fin 6)).trans hf.2.1,
    (h.1 c (2 : Fin 6)).trans hf.2.2.1, (h.1 c (3 : Fin 6)).trans hf.2.2.2.1, (h.1 c (4 : Fin 6)).trans hf.2.2.2.2⟩
  obtain ⟨b, i, n, rfl⟩ : ∃ (b : Fin 2) (i : Fin 128) (n : Fin 512), j = ix3 b i n :=
    ⟨j (0 : Fin 3), j (1 : Fin 3), j (2 : Fin 3), by funext a; match a with | ⟨0, _⟩ => rfl | ⟨1, _⟩ => rfl | ⟨2, _⟩ => rfl⟩
  exact (result_same ρ H (fun c => (hr c).1) (fun c => (hr c).2.1) (fun c => (hr c).2.2) c b i n).trans
    (congrArg (Cert.ReferenceIdeal.Value.res_main_v34 m' 0) (rows_place _ c b i n).symm)

/-- The frames under the precondition, which they do not need. -/
theorem frame_kernelIdeal_finite : Cert.quiescent_KernelIdeal_pre_finite_KernelIdeal (hPre_finite_KernelIdeal := facts_kernel) :=
  fun m ρ _ => frame_kernelIdeal m ρ trivial
/-- The same of the reference. -/
theorem frame_reference_finite : Cert.quiescent_ReferenceIdeal_pre_finite_ReferenceIdeal (hPre_finite_ReferenceIdeal := facts_reference) :=
  fun m ρ _ => frame_reference m ρ trivial

end Cert.Halo

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Halo.facts_kernel, Cert.Halo.facts_reference,
  Cert.Halo.frame_kernel, Cert.Halo.frame_kernelIdeal, Cert.Halo.frame_kernelIdeal_finite, Cert.Halo.frame_reference, Cert.Halo.frame_reference_finite,
  Cert.Halo.preserves, Cert.Halo.algebraic⟩

end Cert.Proof

end
